-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "far" .f32 0x7149F2CA#32 ⊤
  ∧ IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x16x160 : Shape := ⟨3, ![4, 16, 160]⟩
abbrev S50000x256 : Shape := ⟨2, ![50000, 256]⟩
abbrev S256x256 : Shape := ⟨2, ![256, 256]⟩
abbrev S8x32 : Shape := ⟨2, ![8, 32]⟩
abbrev S256 : Shape := ⟨1, ![256]⟩
abbrev S512x256 : Shape := ⟨2, ![512, 256]⟩
abbrev S256x30000 : Shape := ⟨2, ![256, 30000]⟩
abbrev S30000 : Shape := ⟨1, ![30000]⟩
abbrev S_ : Shape := ⟨0, ![]⟩

class Facts : Prop where
  bcast_S_S4x16x160 : S_.BroadcastsInDim S4x16x160 (![] : Fin 0 → Fin S4x16x160.rank)
  reducesTo_S4x16x160_S_d0_1_2 : S4x16x160.ReducesTo [0, 1, 2] S_
  h_S_ : 0 < S_.numel
  bcast_S_S256x30000 : S_.BroadcastsInDim S256x30000 (![] : Fin 0 → Fin S256x30000.rank)
  reducesTo_S256x30000_S_d0_1 : S256x30000.ReducesTo [0, 1] S_
  bcast_S_S30000 : S_.BroadcastsInDim S30000 (![] : Fin 0 → Fin S30000.rank)
  reducesTo_S30000_S_d0 : S30000.ReducesTo [0] S_

variable [Facts]

def fn {F : FTy → Type} [FloatOps F] (main_arg0 : IVec S4x16x160 32) (main_arg1 : FVec F S50000x256 .f32) (main_arg2 : FVec F S256x256 .f32) (main_arg3 : FVec F S8x32 .f32) (main_arg4 : FVec F S8x32 .f32) (main_arg5 : FVec F S256 .f32) (main_arg6 : FVec F S512x256 .f32) (main_arg7 : FVec F S256x256 .f32) (main_arg8 : FVec F S512x256 .f32) (main_arg9 : FVec F S256x256 .f32) (main_arg10 : FVec F S512x256 .f32) (main_arg11 : FVec F S256 .f32) (main_arg12 : FVec F S256x256 .f32) (main_arg13 : FVec F S256 .f32) (main_arg14 : FVec F S256x256 .f32) (main_arg15 : FVec F S256x256 .f32) (main_arg16 : FVec F S256x256 .f32) (main_arg17 : FVec F S256x256 .f32) (main_arg18 : FVec F S256x256 .f32) (main_arg19 : FVec F S256 .f32) (main_arg20 : FVec F S256x256 .f32) (main_arg21 : FVec F S256 .f32) (main_arg22 : FVec F S256x30000 .f32) (main_arg23 : FVec F S30000 .f32) : IVec S_ 1 :=
  let main_c : IVec S_ 32 := constantI S_ 32 0#32
  let main_v0 : IVec S4x16x160 32 := broadcastInDim S4x16x160 ![] bcast_S_S4x16x160 main_c
  let main_v1 : IVec S4x16x160 1 := cmpi .sge main_arg0 main_v0
  let main_c_0 : IVec S_ 32 := constantI S_ 32 32#32
  let main_v2 : IVec S4x16x160 32 := broadcastInDim S4x16x160 ![] bcast_S_S4x16x160 main_c_0
  let main_v3 : IVec S4x16x160 1 := cmpi .slt main_arg0 main_v2
  let main_v4 : IVec S4x16x160 1 := andi main_v1 main_v3
  let main_c_1 : IVec S_ 1 := constantI S_ 1 1#1
  let main_v5 : IVec S_ 1 := (fun x v => Host.reduce IntOp.andi x v reducesTo_S4x16x160_S_d0_1_2 h_S_) main_v4 main_c_1
  let main_v6 : FVec F S256x30000 .f32 := Host.absf main_arg22
  let main_cst : FVec F S_ .f32 := constant S_ .f32 0x7F800000#32
  let main_v7 : FVec F S256x30000 .f32 := broadcastInDim S256x30000 ![] bcast_S_S256x30000 main_cst
  let main_v8 : IVec S256x30000 1 := cmpf .olt main_v6 main_v7
  let main_c_2 : IVec S_ 1 := constantI S_ 1 1#1
  let main_v9 : IVec S_ 1 := (fun x v => Host.reduce IntOp.andi x v reducesTo_S256x30000_S_d0_1 h_S_) main_v8 main_c_2
  let main_v10 : IVec S_ 1 := andi main_v5 main_v9
  let main_v11 : FVec F S30000 .f32 := Host.absf main_arg23
  let main_cst_3 : FVec F S_ .f32 := constant S_ .f32 0x7F800000#32
  let main_v12 : FVec F S30000 .f32 := broadcastInDim S30000 ![] bcast_S_S30000 main_cst_3
  let main_v13 : IVec S30000 1 := cmpf .olt main_v11 main_v12
  let main_c_4 : IVec S_ 1 := constantI S_ 1 1#1
  let main_v14 : IVec S_ 1 := (fun x v => Host.reduce IntOp.andi x v reducesTo_S30000_S_d0 h_S_) main_v13 main_c_4
  let main_v15 : IVec S_ 1 := andi main_v10 main_v14
  main_v15
-- ==== Kernel.lean ====
abbrev S4x16x160 : Shape := ⟨3, ![4, 16, 160]⟩
abbrev S50000x256 : Shape := ⟨2, ![50000, 256]⟩
abbrev S256x256 : Shape := ⟨2, ![256, 256]⟩
abbrev S8x32 : Shape := ⟨2, ![8, 32]⟩
abbrev S256 : Shape := ⟨1, ![256]⟩
abbrev S512x256 : Shape := ⟨2, ![512, 256]⟩
abbrev S256x30000 : Shape := ⟨2, ![256, 30000]⟩
abbrev S30000 : Shape := ⟨1, ![30000]⟩
abbrev S64x160 : Shape := ⟨2, ![64, 160]⟩
abbrev S64x32 : Shape := ⟨2, ![64, 32]⟩
abbrev S64x128 : Shape := ⟨2, ![64, 128]⟩
abbrev S64x2x64 : Shape := ⟨3, ![64, 2, 64]⟩
abbrev S_ : Shape := ⟨0, ![]⟩
abbrev S64x1 : Shape := ⟨2, ![64, 1]⟩
abbrev S64x1x64 : Shape := ⟨3, ![64, 1, 64]⟩
abbrev S64x64 : Shape := ⟨2, ![64, 64]⟩
abbrev S64x65 : Shape := ⟨2, ![64, 65]⟩
abbrev S4160x1 : Shape := ⟨2, ![4160, 1]⟩
abbrev S32x256 : Shape := ⟨2, ![32, 256]⟩
abbrev S1x256 : Shape := ⟨2, ![1, 256]⟩
abbrev S512x768 : Shape := ⟨2, ![512, 768]⟩
abbrev S256x1280 : Shape := ⟨2, ![256, 1280]⟩
abbrev S256x512 : Shape := ⟨2, ![256, 512]⟩
abbrev S1x30000 : Shape := ⟨2, ![1, 30000]⟩
abbrev S64x30000 : Shape := ⟨2, ![64, 30000]⟩
abbrev S256x8192 : Shape := ⟨2, ![256, 8192]⟩
abbrev S1x8192 : Shape := ⟨2, ![1, 8192]⟩
abbrev S64x8192 : Shape := ⟨2, ![64, 8192]⟩
abbrev S64x256 : Shape := ⟨2, ![64, 256]⟩
abbrev S64x768 : Shape := ⟨2, ![64, 768]⟩
abbrev S4x64x8192 : Shape := ⟨3, ![4, 64, 8192]⟩
abbrev S256x8 : Shape := ⟨2, ![256, 8]⟩
abbrev S32x8 : Shape := ⟨2, ![32, 8]⟩
abbrev S4160x64 : Shape := ⟨2, ![4160, 64]⟩
abbrev S64x4160 : Shape := ⟨2, ![64, 4160]⟩
abbrev S4160x32 : Shape := ⟨2, ![4160, 32]⟩
abbrev S4160 : Shape := ⟨1, ![4160]⟩
abbrev S4160x8 : Shape := ⟨2, ![4160, 8]⟩
abbrev S64x8 : Shape := ⟨2, ![64, 8]⟩
abbrev S8 : Shape := ⟨1, ![8]⟩
abbrev S1x8 : Shape := ⟨2, ![1, 8]⟩
abbrev S8x256 : Shape := ⟨2, ![8, 256]⟩
abbrev S4160x256 : Shape := ⟨2, ![4160, 256]⟩
abbrev S256x768 : Shape := ⟨2, ![256, 768]⟩
abbrev S1x768 : Shape := ⟨2, ![1, 768]⟩
abbrev S1x1280 : Shape := ⟨2, ![1, 1280]⟩
abbrev S1x512 : Shape := ⟨2, ![1, 512]⟩
abbrev S1x64x8192 : Shape := ⟨3, ![1, 64, 8192]⟩
abbrev S64 : Shape := ⟨1, ![64]⟩

abbrev nBuf : Space → Nat
  | .hbm => 53
  | .vmem => 28
  | .smem => 0
  | _ => 0

abbrev bufTy : (tb : Table) → Fin (tcTables nBuf tb) → BufTy
  | .hbm, ⟨0, _⟩ => ⟨S4x16x160, .i32⟩
  | .hbm, ⟨1, _⟩ => ⟨S50000x256, .f32⟩
  | .hbm, ⟨2, _⟩ => ⟨S256x256, .f32⟩
  | .hbm, ⟨3, _⟩ => ⟨S8x32, .f32⟩
  | .hbm, ⟨4, _⟩ => ⟨S8x32, .f32⟩
  | .hbm, ⟨5, _⟩ => ⟨S256, .f32⟩
  | .hbm, ⟨6, _⟩ => ⟨S512x256, .f32⟩
  | .hbm, ⟨7, _⟩ => ⟨S256x256, .f32⟩
  | .hbm, ⟨8, _⟩ => ⟨S512x256, .f32⟩
  | .hbm, ⟨9, _⟩ => ⟨S256x256, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256, .f32⟩
  | .hbm, ⟨22, _⟩ => ⟨S256x30000, .f32⟩
  | .hbm, ⟨23, _⟩ => ⟨S30000, .f32⟩
  | .hbm, ⟨24, _⟩ => ⟨S64x160, .i32⟩
  | .hbm, ⟨25, _⟩ => ⟨S64x32, .i32⟩
  | .hbm, ⟨26, _⟩ => ⟨S64x128, .i32⟩
  | .hbm, ⟨27, _⟩ => ⟨S64x2x64, .i32⟩
  | .hbm, ⟨28, _⟩ => ⟨S_, .i32⟩
  | .hbm, ⟨29, _⟩ => ⟨S64x1, .i32⟩
  | .hbm, ⟨30, _⟩ => ⟨S64x1x64, .i32⟩
  | .hbm, ⟨31, _⟩ => ⟨S64x64, .i32⟩
  | .hbm, ⟨32, _⟩ => ⟨S64x65, .i32⟩
  | .hbm, ⟨33, _⟩ => ⟨S4160x1, .i32⟩
  | .hbm, ⟨34, _⟩ => ⟨S64x1x64, .i32⟩
  | .hbm, ⟨35, _⟩ => ⟨S64x64, .i32⟩
  | .hbm, ⟨36, _⟩ => ⟨S64x65, .i32⟩
  | .hbm, ⟨37, _⟩ => ⟨S4160x1, .i32⟩
  | .hbm, ⟨38, _⟩ => ⟨S32x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S512x768, .f32⟩
  | .hbm, ⟨43, _⟩ => ⟨S256x1280, .f32⟩
  | .hbm, ⟨44, _⟩ => ⟨S256x512, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x30000, .f32⟩
  | .hbm, ⟨50, _⟩ => ⟨S64x30000, .f32⟩
  | .hbm, ⟨51, _⟩ => ⟨S_, .i32⟩
  | .hbm, ⟨52, _⟩ => ⟨S64, .i32⟩
  | .local _ .vmem, ⟨0, _⟩ => ⟨S64x32, .i32⟩
  | .local _ .vmem, ⟨1, _⟩ => ⟨S4160x1, .i32⟩
  | .local _ .vmem, ⟨2, _⟩ => ⟨S4160x1, .i32⟩
  | .local _ .vmem, ⟨3, _⟩ => ⟨S32x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x768, .f32⟩
  | .local _ .vmem, ⟨9, _⟩ => ⟨S1x256, .f32⟩
  | .local _ .vmem, ⟨10, _⟩ => ⟨S256x1280, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S256x512, .f32⟩
  | .local _ .vmem, ⟨15, _⟩ => ⟨S256x256, .f32⟩
  | .local _ .vmem, ⟨16, _⟩ => ⟨S1x256, .f32⟩
  | .local _ .vmem, ⟨17, _⟩ => ⟨S256x8192, .f32⟩
  | .local _ .vmem, ⟨18, _⟩ => ⟨S256x8192, .f32⟩
  | .local _ .vmem, ⟨19, _⟩ => ⟨S1x8192, .f32⟩
  | .local _ .vmem, ⟨20, _⟩ => ⟨S1x8192, .f32⟩
  | .local _ .vmem, ⟨21, _⟩ => ⟨S64x8192, .f32⟩
  | .local _ .vmem, ⟨22, _⟩ => ⟨S64x8192, .f32⟩
  | .local _ .vmem, ⟨23, _⟩ => ⟨S64x256, .f32⟩
  | .local _ .vmem, ⟨24, _⟩ => ⟨S64x768, .f32⟩
  | .local _ .vmem, ⟨25, _⟩ => ⟨S4x64x8192, .f32⟩
  | .local _ .vmem, ⟨26, _⟩ => ⟨S64x1, .f32⟩
  | .local _ .vmem, ⟨27, _⟩ => ⟨S64x1, .f32⟩
  | _, _ => ⟨S4x16x160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_0 : Ref sig .tc := ⟨.hbm, 51, rfl⟩
abbrev main_v26 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem17_1 : DmaSem sig := 18
abbrev cc0_sem18_0 : DmaSem sig := 19
abbrev cc0_sem18_1 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_82 : BitVec 32 := 0#32
  let c65_i32_83 : BitVec 32 := 65#32
  let v229 : BitVec 32 := Scalar.addi c0_i32_82 c65_i32_83
  let c1_i32_84 : BitVec 32 := 1#32
  ⟨c0_i32_82, v229, c1_i32_84⟩
def k0_off1 (k0_t1 : Fin k0_t1_loop.trips) : Fin 2 → Nat :=
  let c0_i32_82 : BitVec 32 := 0#32
  let c1_i32_84 : BitVec 32 := 1#32
  let arg27 : BitVec 32 := Scf.iv c0_i32_82 c1_i32_84 k0_t1
  let c63_i32 : BitVec 32 := 63#32
  let v231 : BitVec 32 := Scalar.minsi arg27 c63_i32
  let v232 : Index := Scalar.indexCast v231
  let c0_86 : Index := 0#32
  ![v232.toNat, 0]
def k0_off2 (k0_t1 : Fin k0_t1_loop.trips) : Fin 2 → Nat :=
  let c0_i32_82 : BitVec 32 := 0#32
  let c1_i32_84 : BitVec 32 := 1#32
  let arg27 : BitVec 32 := Scf.iv c0_i32_82 c1_i32_84 k0_t1
  let c1_i32_101 : BitVec 32 := 1#32
  let v282 : BitVec 32 := Scalar.subi arg27 c1_i32_101
  let c0_i32_102 : BitVec 32 := 0#32
  let v283 : BitVec 32 := Scalar.maxsi v282 c0_i32_102
  let v284 : Index := Scalar.indexCast v283
  let c0_103 : Index := 0#32
  ![v284.toNat, 0]
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off3 (i : grid0.Coords) : Fin 3 → Nat :=
  let arg1 : BitVec 32 := BitVec.ofNat 32 (i 1).val
  let v18 : Index := Scalar.indexCast arg1
  let c0_10 : Index := 0#32
  let c0_11 : Index := 0#32
  ![v18.toNat, 0, 0]
def k0_cond5 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off4 (i : grid0.Coords) : Fin 3 → Nat :=
  let arg1 : BitVec 32 := BitVec.ofNat 32 (i 1).val
  let v15 : Index := Scalar.indexCast arg1
  let c0_8 : Index := 0#32
  let c0_9 : Index := 0#32
  ![v15.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .vmem S64x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4160x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4160x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x8192 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8192 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x8192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "far" => some ⊤
  | "mask" => some ⊥
  | _ => none
-- ==== ReferenceIdeal.lean ====
abbrev S4x16x160 : Shape := ⟨3, ![4, 16, 160]⟩
abbrev S50000x256 : Shape := ⟨2, ![50000, 256]⟩
abbrev S256x256 : Shape := ⟨2, ![256, 256]⟩
abbrev S8x32 : Shape := ⟨2, ![8, 32]⟩
abbrev S256 : Shape := ⟨1, ![256]⟩
abbrev S512x256 : Shape := ⟨2, ![512, 256]⟩
abbrev S256x30000 : Shape := ⟨2, ![256, 30000]⟩
abbrev S30000 : Shape := ⟨1, ![30000]⟩
abbrev S64x160 : Shape := ⟨2, ![64, 160]⟩
abbrev S64x32 : Shape := ⟨2, ![64, 32]⟩
abbrev S64x128 : Shape := ⟨2, ![64, 128]⟩
abbrev S64x2x64 : Shape := ⟨3, ![64, 2, 64]⟩
abbrev S2048 : Shape := ⟨1, ![2048]⟩
abbrev S_ : Shape := ⟨0, ![]⟩
abbrev S2048x1 : Shape := ⟨2, ![2048, 1]⟩
abbrev S2048x256 : Shape := ⟨2, ![2048, 256]⟩
abbrev S64x1 : Shape := ⟨2, ![64, 1]⟩
abbrev S64 : Shape := ⟨1, ![64]⟩
abbrev S64x256 : Shape := ⟨2, ![64, 256]⟩
abbrev S2048x8x32 : Shape := ⟨3, ![2048, 8, 32]⟩
abbrev S32 : Shape := ⟨1, ![32]⟩
abbrev S1x32 : Shape := ⟨2, ![1, 32]⟩
abbrev S64x1x64 : Shape := ⟨3, ![64, 1, 64]⟩
abbrev S64x64 : Shape := ⟨2, ![64, 64]⟩
abbrev S64x96 : Shape := ⟨2, ![64, 96]⟩
abbrev S1x8x32 : Shape := ⟨3, ![1, 8, 32]⟩
abbrev S2048x8 : Shape := ⟨2, ![2048, 8]⟩
abbrev S64x96x1 : Shape := ⟨3, ![64, 96, 1]⟩
abbrev S64x96x8 : Shape := ⟨3, ![64, 96, 8]⟩
abbrev S8 : Shape := ⟨1, ![8]⟩
abbrev S1x1x8 : Shape := ⟨3, ![1, 1, 8]⟩
abbrev S64x8 : Shape := ⟨2, ![64, 8]⟩
abbrev S64x1x8 : Shape := ⟨3, ![64, 1, 8]⟩
abbrev S64x96x8x32 : Shape := ⟨4, ![64, 96, 8, 32]⟩
abbrev S64x96x8x1 : Shape := ⟨4, ![64, 96, 8, 1]⟩
abbrev S64x8x32 : Shape := ⟨3, ![64, 8, 32]⟩
abbrev S1x256 : Shape := ⟨2, ![1, 256]⟩
abbrev S64x512 : Shape := ⟨2, ![64, 512]⟩
abbrev S1x512 : Shape := ⟨2, ![1, 512]⟩
abbrev S512 : Shape := ⟨1, ![512]⟩
abbrev S64x30000 : Shape := ⟨2, ![64, 30000]⟩
abbrev S1x30000 : Shape := ⟨2, ![1, 30000]⟩

abbrev nBuf : Space → Nat
  | .hbm => 285
  | .vmem => 0
  | .smem => 0
  | _ => 0

abbrev hbmTy0_0 (i : Nat) : BufTy := match i % 128 with
  | 0 => ⟨S4x16x160, .i32⟩
  | 1 => ⟨S50000x256, .f32⟩
  | 2 => ⟨S256x256, .f32⟩
  | 3 => ⟨S8x32, .f32⟩
  | 4 => ⟨S8x32, .f32⟩
  | 5 => ⟨S256, .f32⟩
  | 6 => ⟨S512x256, .f32⟩
  | 7 => ⟨S256x256, .f32⟩
  | 8 => ⟨S512x256, .f32⟩
  | 9 => ⟨S256x256, .f32⟩
  | 10 => ⟨S512x256, .f32⟩
  | 11 => ⟨S256, .f32⟩
  | 12 => ⟨S256x256, .f32⟩
  | 13 => ⟨S256, .f32⟩
  | 14 => ⟨S256x256, .f32⟩
  | 15 => ⟨S256x256, .f32⟩
  | 16 => ⟨S256x256, .f32⟩
  | 17 => ⟨S256x256, .f32⟩
  | 18 => ⟨S256x256, .f32⟩
  | 19 => ⟨S256, .f32⟩
  | 20 => ⟨S256x256, .f32⟩
  | 21 => ⟨S256, .f32⟩
  | 22 => ⟨S256x30000, .f32⟩
  | 23 => ⟨S30000, .f32⟩
  | 24 => ⟨S64x160, .i32⟩
  | 25 => ⟨S64x32, .i32⟩
  | 26 => ⟨S64x128, .i32⟩
  | 27 => ⟨S64x2x64, .i32⟩
  | 28 => ⟨S2048, .i32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S2048x256, .f32⟩
  | 38 => ⟨S64x1, .i32⟩
  | 39 => ⟨S64, .i32⟩
  | 40 => ⟨S_, .i32⟩
  | 41 => ⟨S64, .i32⟩
  | 42 => ⟨S64, .i1⟩
  | 43 => ⟨S_, .i32⟩
  | 44 => ⟨S64, .i32⟩
  | 45 => ⟨S64, .i32⟩
  | 46 => ⟨S64, .i32⟩
  | 47 => ⟨S64x1, .i32⟩
  | 48 => ⟨S64x256, .f32⟩
  | 49 => ⟨S2048x256, .f32⟩
  | 50 => ⟨S2048x8x32, .f32⟩
  | 51 => ⟨S32, .i32⟩
  | 52 => ⟨S1x32, .i32⟩
  | 53 => ⟨S64x32, .i32⟩
  | 54 => ⟨S64x1x64, .i32⟩
  | 55 => ⟨S64x64, .i32⟩
  | 56 => ⟨S64x96, .i32⟩
  | 57 => ⟨S64x1x64, .i32⟩
  | 58 => ⟨S64x64, .i32⟩
  | 59 => ⟨S64x96, .i32⟩
  | 60 => ⟨S64, .i32⟩
  | 61 => ⟨S64x1, .i32⟩
  | 62 => ⟨S_, .i32⟩
  | 63 => ⟨S64x1, .i32⟩
  | 64 => ⟨S64x1, .i32⟩
  | 65 => ⟨S1x8x32, .f32⟩
  | 66 => ⟨S2048x8x32, .f32⟩
  | 67 => ⟨S2048x8x32, .f32⟩
  | 68 => ⟨S_, .f32⟩
  | 69 => ⟨S2048x8, .f32⟩
  | 70 => ⟨S1x8x32, .f32⟩
  | 71 => ⟨S2048x8x32, .f32⟩
  | 72 => ⟨S2048x8x32, .f32⟩
  | 73 => ⟨S_, .f32⟩
  | 74 => ⟨S2048x8, .f32⟩
  | 75 => ⟨S64x96, .i32⟩
  | 76 => ⟨S64x96, .i32⟩
  | 77 => ⟨S_, .i32⟩
  | 78 => ⟨S64x96, .i32⟩
  | 79 => ⟨S64x96, .i1⟩
  | 80 => ⟨S_, .i32⟩
  | 81 => ⟨S64x96, .i32⟩
  | 82 => ⟨S64x96, .i32⟩
  | 83 => ⟨S64x96, .i32⟩
  | 84 => ⟨S64x96x1, .i32⟩
  | 85 => ⟨S64x96x8, .f32⟩
  | 86 => ⟨S64x96, .i32⟩
  | 87 => ⟨S64x96, .i32⟩
  | 88 => ⟨S_, .i32⟩
  | 89 => ⟨S64x96, .i32⟩
  | 90 => ⟨S64x96, .i1⟩
  | 91 => ⟨S_, .i32⟩
  | 92 => ⟨S64x96, .i32⟩
  | 93 => ⟨S64x96, .i32⟩
  | 94 => ⟨S64x96, .i32⟩
  | 95 => ⟨S64x96x1, .i32⟩
  | 96 => ⟨S64x96x8, .f32⟩
  | 97 => ⟨S64x96x8, .f32⟩
  | 98 => ⟨S_, .f32⟩
  | 99 => ⟨S_, .f32⟩
  | 100 => ⟨S64x96x8, .f32⟩
  | 101 => ⟨S64x96x8, .i1⟩
  | 102 => ⟨S_, .f32⟩
  | 103 => ⟨S64x96x8, .f32⟩
  | 104 => ⟨S64x96x8, .f32⟩
  | 105 => ⟨S64x96x8, .f32⟩
  | 106 => ⟨S_, .i32⟩
  | 107 => ⟨S64x96, .i32⟩
  | 108 => ⟨S64x96, .i1⟩
  | 109 => ⟨S64x96x1, .i1⟩
  | 110 => ⟨S_, .f32⟩
  | 111 => ⟨S_, .f32⟩
  | 112 => ⟨S64x96x8, .i1⟩
  | 113 => ⟨S64x96x8, .f32⟩
  | 114 => ⟨S64x96x8, .f32⟩
  | 115 => ⟨S_, .f32⟩
  | 116 => ⟨S8, .f32⟩
  | 117 => ⟨S1x1x8, .f32⟩
  | 118 => ⟨S64x96x8, .f32⟩
  | 119 => ⟨S64x96x8, .f32⟩
  | 120 => ⟨S64x96x8, .f32⟩
  | 121 => ⟨S_, .f32⟩
  | 122 => ⟨S_, .f32⟩
  | 123 => ⟨S64x96x8, .i1⟩
  | 124 => ⟨S64x96x8, .f32⟩
  | 125 => ⟨S64x96x8, .f32⟩
  | 126 => ⟨S_, .f32⟩
  | 127 => ⟨S64x8, .f32⟩
  | _ => ⟨S4x16x160, .i32⟩

abbrev hbmTy0_1 (i : Nat) : BufTy := match i % 128 with
  | 0 => ⟨S64x1x8, .f32⟩
  | 1 => ⟨S_, .f32⟩
  | 2 => ⟨S64x1x8, .f32⟩
  | 3 => ⟨S64x1x8, .f32⟩
  | 4 => ⟨S64x96x8, .f32⟩
  | 5 => ⟨S64x96x8, .f32⟩
  | 6 => ⟨S64x96, .i32⟩
  | 7 => ⟨S64x96, .i32⟩
  | 8 => ⟨S_, .i32⟩
  | 9 => ⟨S64x96, .i32⟩
  | 10 => ⟨S64x96, .i1⟩
  | 11 => ⟨S_, .i32⟩
  | 12 => ⟨S64x96, .i32⟩
  | 13 => ⟨S64x96, .i32⟩
  | 14 => ⟨S64x96, .i32⟩
  | 15 => ⟨S64x96x1, .i32⟩
  | 16 => ⟨S64x96x8x32, .f32⟩
  | 17 => ⟨S64x96x8x1, .f32⟩
  | 18 => ⟨S64x96x8x32, .f32⟩
  | 19 => ⟨S64x96x8x32, .f32⟩
  | 20 => ⟨S_, .f32⟩
  | 21 => ⟨S64x8x32, .f32⟩
  | 22 => ⟨S64x256, .f32⟩
  | 23 => ⟨S1x256, .f32⟩
  | 24 => ⟨S64x256, .f32⟩
  | 25 => ⟨S64x256, .f32⟩
  | 26 => ⟨S64x512, .f32⟩
  | 27 => ⟨S_, .f32⟩
  | 28 => ⟨S1x256, .f32⟩
  | 29 => ⟨S_, .f32⟩
  | 30 => ⟨S64x256, .f32⟩
  | 31 => ⟨S_, .i32⟩
  | 32 => ⟨S64x512, .f32⟩
  | 33 => ⟨S512x256, .f32⟩
  | 34 => ⟨S256x256, .f32⟩
  | 35 => ⟨S512x256, .f32⟩
  | 36 => ⟨S256x256, .f32⟩
  | 37 => ⟨S512x256, .f32⟩
  | 38 => ⟨S256, .f32⟩
  | 39 => ⟨S256x256, .f32⟩
  | 40 => ⟨S256, .f32⟩
  | 41 => ⟨S256x256, .f32⟩
  | 42 => ⟨S256x256, .f32⟩
  | 43 => ⟨S256x256, .f32⟩
  | 44 => ⟨S256x256, .f32⟩
  | 45 => ⟨S256x256, .f32⟩
  | 46 => ⟨S256, .f32⟩
  | 47 => ⟨S256x256, .f32⟩
  | 48 => ⟨S256, .f32⟩
  | 49 => ⟨S_, .i32⟩
  | 50 => ⟨S1x256, .f32⟩
  | 51 => ⟨S1x256, .f32⟩
  | 52 => ⟨S64x256, .f32⟩
  | 53 => ⟨S_, .i32⟩
  | 54 => ⟨S_, .i1⟩
  | 55 => ⟨S_, .i32⟩
  | 56 => ⟨S1x512, .f32⟩
  | 57 => ⟨S512, .f32⟩
  | 58 => ⟨S1x512, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S1x256, .f32⟩
  | 85 => ⟨S1x256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S_, .f32⟩
  | 92 => ⟨S1x256, .f32⟩
  | 93 => ⟨S1x256, .f32⟩
  | 94 => ⟨S1x256, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S1x256, .f32⟩
  | 111 => ⟨S1x256, .f32⟩
  | 112 => ⟨S_, .f32⟩
  | 113 => ⟨S1x256, .f32⟩
  | 114 => ⟨S1x256, .f32⟩
  | 115 => ⟨S_, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S1x256, .f32⟩
  | 123 => ⟨S1x256, .f32⟩
  | 124 => ⟨S1x256, .f32⟩
  | 125 => ⟨S1x256, .f32⟩
  | 126 => ⟨S1x256, .f32⟩
  | 127 => ⟨S1x256, .f32⟩
  | _ => ⟨S4x16x160, .i32⟩

abbrev hbmTy0_2 (i : Nat) : BufTy := match i % 128 with
  | 0 => ⟨S_, .f32⟩
  | 1 => ⟨S1x256, .f32⟩
  | 2 => ⟨S1x256, .f32⟩
  | 3 => ⟨S1x256, .f32⟩
  | 4 => ⟨S1x256, .f32⟩
  | 5 => ⟨S256, .f32⟩
  | 6 => ⟨S1x256, .f32⟩
  | 7 => ⟨S_, .i32⟩
  | 8 => ⟨S64x256, .f32⟩
  | 9 => ⟨S_, .i32⟩
  | 10 => ⟨S_, .i32⟩
  | 11 => ⟨S64x30000, .f32⟩
  | 12 => ⟨S1x30000, .f32⟩
  | 13 => ⟨S64x30000, .f32⟩
  | 14 => ⟨S64x30000, .f32⟩
  | 15 => ⟨S_, .f32⟩
  | 16 => ⟨S64, .f32⟩
  | 17 => ⟨S64x1, .f32⟩
  | 18 => ⟨S64x30000, .f32⟩
  | 19 => ⟨S64x30000, .f32⟩
  | 20 => ⟨S64x30000, .f32⟩
  | 21 => ⟨S_, .f32⟩
  | 22 => ⟨S64, .f32⟩
  | 23 => ⟨S64x1, .f32⟩
  | 24 => ⟨S64x1, .f32⟩
  | 25 => ⟨S64x30000, .f32⟩
  | 26 => ⟨S64x30000, .f32⟩
  | 27 => ⟨S_, .i32⟩
  | 28 => ⟨S64, .i32⟩
  | _ => ⟨S4x16x160, .i32⟩

abbrev hbmTy (i : Nat) : BufTy := match i / 128 with
  | 0 => hbmTy0_0 i
  | 1 => hbmTy0_1 i
  | 2 => hbmTy0_2 i
  | _ => ⟨S4x16x160, .i32⟩

abbrev bufTy : (tb : Table) → Fin (tcTables nBuf tb) → BufTy
  | .hbm, ⟨i, _⟩ => hbmTy i
  | _, _ => ⟨S4x16x160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_5 : Ref sig .tc := ⟨.hbm, 77, rfl⟩
abbrev main_v46 : Ref sig .tc := ⟨.hbm, 78, rfl⟩
abbrev main_v47 : Ref sig .tc := ⟨.hbm, 79, rfl⟩
abbrev main_c_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_7 : Ref sig .tc := ⟨.hbm, 88, rfl⟩
abbrev main_v55 : Ref sig .tc := ⟨.hbm, 89, rfl⟩
abbrev main_v56 : Ref sig .tc := ⟨.hbm, 90, rfl⟩
abbrev main_c_8 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_9 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v63 : Ref sig .tc := ⟨.hbm, 105, rfl⟩
abbrev main_c_10 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_11 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v67 : Ref sig .tc := ⟨.hbm, 114, rfl⟩
abbrev main_cst_12 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_13 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v73 : Ref sig .tc := ⟨.hbm, 125, rfl⟩
abbrev main_cst_14 : Ref sig .tc := ⟨.hbm, 126, rfl⟩
abbrev main_v74 : Ref sig .tc := ⟨.hbm, 127, rfl⟩
abbrev main_v75 : Ref sig .tc := ⟨.hbm, 128, rfl⟩
abbrev main_cst_15 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_16 : Ref sig .tc := ⟨.hbm, 136, rfl⟩
abbrev main_v82 : Ref sig .tc := ⟨.hbm, 137, rfl⟩
abbrev main_v83 : Ref sig .tc := ⟨.hbm, 138, rfl⟩
abbrev main_c_17 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_18 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_19 : Ref sig .tc := ⟨.hbm, 155, rfl⟩
abbrev main_v98 : Ref sig .tc := ⟨.hbm, 156, rfl⟩
abbrev main_cst_20 : Ref sig .tc := ⟨.hbm, 157, rfl⟩
abbrev main_v99 : Ref sig .tc := ⟨.hbm, 158, rfl⟩
abbrev main_c_21 : Ref sig .tc := ⟨.hbm, 159, rfl⟩
abbrev main_v100_0 : Ref sig .tc := ⟨.hbm, 160, rfl⟩
abbrev main_v100_1 : Ref sig .tc := ⟨.hbm, 161, rfl⟩
abbrev main_v100_2 : Ref sig .tc := ⟨.hbm, 162, rfl⟩
abbrev main_v100_3 : Ref sig .tc := ⟨.hbm, 163, rfl⟩
abbrev main_v100_4 : Ref sig .tc := ⟨.hbm, 164, rfl⟩
abbrev main_v100_5 : Ref sig .tc := ⟨.hbm, 165, rfl⟩
abbrev main_v100_6 : Ref sig .tc := ⟨.hbm, 166, rfl⟩
abbrev main_v100_7 : Ref sig .tc := ⟨.hbm, 167, rfl⟩
abbrev main_v100_8 : Ref sig .tc := ⟨.hbm, 168, rfl⟩
abbrev main_v100_9 : Ref sig .tc := ⟨.hbm, 169, rfl⟩
abbrev main_v100_10 : Ref sig .tc := ⟨.hbm, 170, rfl⟩
abbrev main_v100_11 : Ref sig .tc := ⟨.hbm, 171, rfl⟩
abbrev main_v100_12 : Ref sig .tc := ⟨.hbm, 172, rfl⟩
abbrev main_v100_13 : Ref sig .tc := ⟨.hbm, 173, rfl⟩
abbrev main_v100_14 : Ref sig .tc := ⟨.hbm, 174, rfl⟩
abbrev main_v100_15 : Ref sig .tc := ⟨.hbm, 175, rfl⟩
abbrev main_v100_16 : Ref sig .tc := ⟨.hbm, 176, rfl⟩
abbrev main_v100_17 : Ref sig .tc := ⟨.hbm, 177, rfl⟩
abbrev main_v100_18 : Ref sig .tc := ⟨.hbm, 178, rfl⟩
abbrev main_v100_19 : Ref sig .tc := ⟨.hbm, 179, rfl⟩
abbrev main_v100_20 : Ref sig .tc := ⟨.hbm, 180, rfl⟩
abbrev main_while0c_c_45 : Ref sig .tc := ⟨.hbm, 181, rfl⟩
abbrev main_while0c_v116 : Ref sig .tc := ⟨.hbm, 182, rfl⟩
abbrev main_while0b_call3_c : Ref sig .tc := ⟨.hbm, 183, rfl⟩
abbrev main_while0b_call3_v0 : Ref sig .tc := ⟨.hbm, 184, rfl⟩
abbrev main_while0b_v116 : Ref sig .tc := ⟨.hbm, 185, rfl⟩
abbrev main_while0b_v117 : Ref sig .tc := ⟨.hbm, 186, rfl⟩
abbrev main_while0b_v118 : Ref sig .tc := ⟨.hbm, 187, rfl⟩
abbrev main_while0b_v119 : Ref sig .tc := ⟨.hbm, 188, rfl⟩
abbrev main_while0b_v120 : Ref sig .tc := ⟨.hbm, 189, rfl⟩
abbrev main_while0b_v121 : Ref sig .tc := ⟨.hbm, 190, rfl⟩
abbrev main_while0b_v122 : Ref sig .tc := ⟨.hbm, 191, rfl⟩
abbrev main_while0b_cst_45 : Ref sig .tc := ⟨.hbm, 192, rfl⟩
abbrev main_while0b_v123 : Ref sig .tc := ⟨.hbm, 193, rfl⟩
abbrev main_while0b_v124 : Ref sig .tc := ⟨.hbm, 194, rfl⟩
abbrev main_while0b_cst_46 : Ref sig .tc := ⟨.hbm, 195, rfl⟩
abbrev main_while0b_v125 : Ref sig .tc := ⟨.hbm, 196, rfl⟩
abbrev main_while0b_v126 : Ref sig .tc := ⟨.hbm, 197, rfl⟩
abbrev main_while0b_v127 : Ref sig .tc := ⟨.hbm, 198, rfl⟩
abbrev main_while0b_v128 : Ref sig .tc := ⟨.hbm, 199, rfl⟩
abbrev main_while0b_v129 : Ref sig .tc := ⟨.hbm, 200, rfl⟩
abbrev main_while0b_v130 : Ref sig .tc := ⟨.hbm, 201, rfl⟩
abbrev main_while0b_v131 : Ref sig .tc := ⟨.hbm, 202, rfl⟩
abbrev main_while0b_cst_47 : Ref sig .tc := ⟨.hbm, 203, rfl⟩
abbrev main_while0b_v132 : Ref sig .tc := ⟨.hbm, 204, rfl⟩
abbrev main_while0b_v133 : Ref sig .tc := ⟨.hbm, 205, rfl⟩
abbrev main_while0b_cst_48 : Ref sig .tc := ⟨.hbm, 206, rfl⟩
abbrev main_while0b_v134 : Ref sig .tc := ⟨.hbm, 207, rfl⟩
abbrev main_while0b_v135 : Ref sig .tc := ⟨.hbm, 208, rfl⟩
abbrev main_while0b_v136 : Ref sig .tc := ⟨.hbm, 209, rfl⟩
abbrev main_while0b_v137 : Ref sig .tc := ⟨.hbm, 210, rfl⟩
abbrev main_while0b_v138 : Ref sig .tc := ⟨.hbm, 211, rfl⟩
abbrev main_while0b_v139 : Ref sig .tc := ⟨.hbm, 212, rfl⟩
abbrev main_while0b_v140 : Ref sig .tc := ⟨.hbm, 213, rfl⟩
abbrev main_while0b_v141 : Ref sig .tc := ⟨.hbm, 214, rfl⟩
abbrev main_while0b_v142 : Ref sig .tc := ⟨.hbm, 215, rfl⟩
abbrev main_while0b_v143 : Ref sig .tc := ⟨.hbm, 216, rfl⟩
abbrev main_while0b_v144 : Ref sig .tc := ⟨.hbm, 217, rfl⟩
abbrev main_while0b_v145 : Ref sig .tc := ⟨.hbm, 218, rfl⟩
abbrev main_while0b_cst_49 : Ref sig .tc := ⟨.hbm, 219, rfl⟩
abbrev main_while0b_v146 : Ref sig .tc := ⟨.hbm, 220, rfl⟩
abbrev main_while0b_v147 : Ref sig .tc := ⟨.hbm, 221, rfl⟩
abbrev main_while0b_v148 : Ref sig .tc := ⟨.hbm, 222, rfl⟩
abbrev main_while0b_v149 : Ref sig .tc := ⟨.hbm, 223, rfl⟩
abbrev main_while0b_v150 : Ref sig .tc := ⟨.hbm, 224, rfl⟩
abbrev main_while0b_v151 : Ref sig .tc := ⟨.hbm, 225, rfl⟩
abbrev main_while0b_v152 : Ref sig .tc := ⟨.hbm, 226, rfl⟩
abbrev main_while0b_v153 : Ref sig .tc := ⟨.hbm, 227, rfl⟩
abbrev main_while0b_v154 : Ref sig .tc := ⟨.hbm, 228, rfl⟩
abbrev main_while0b_cst_50 : Ref sig .tc := ⟨.hbm, 229, rfl⟩
abbrev main_while0b_v155 : Ref sig .tc := ⟨.hbm, 230, rfl⟩
abbrev main_while0b_v156 : Ref sig .tc := ⟨.hbm, 231, rfl⟩
abbrev main_while0b_cst_51 : Ref sig .tc := ⟨.hbm, 232, rfl⟩
abbrev main_while0b_v157 : Ref sig .tc := ⟨.hbm, 233, rfl⟩
abbrev main_while0b_v158 : Ref sig .tc := ⟨.hbm, 234, rfl⟩
abbrev main_while0b_v159 : Ref sig .tc := ⟨.hbm, 235, rfl⟩
abbrev main_while0b_v160 : Ref sig .tc := ⟨.hbm, 236, rfl⟩
abbrev main_while0b_v161 : Ref sig .tc := ⟨.hbm, 237, rfl⟩
abbrev main_while0b_v162 : Ref sig .tc := ⟨.hbm, 238, rfl⟩
abbrev main_while0b_v163 : Ref sig .tc := ⟨.hbm, 239, rfl⟩
abbrev main_while0b_cst_52 : Ref sig .tc := ⟨.hbm, 240, rfl⟩
abbrev main_while0b_v164 : Ref sig .tc := ⟨.hbm, 241, rfl⟩
abbrev main_while0b_v165 : Ref sig .tc := ⟨.hbm, 242, rfl⟩
abbrev main_while0b_cst_53 : Ref sig .tc := ⟨.hbm, 243, rfl⟩
abbrev main_while0b_v166 : Ref sig .tc := ⟨.hbm, 244, rfl⟩
abbrev main_while0b_v167 : Ref sig .tc := ⟨.hbm, 245, rfl⟩
abbrev main_while0b_v168 : Ref sig .tc := ⟨.hbm, 246, rfl⟩
abbrev main_while0b_v169 : Ref sig .tc := ⟨.hbm, 247, rfl⟩
abbrev main_while0b_v170 : Ref sig .tc := ⟨.hbm, 248, rfl⟩
abbrev main_while0b_v171 : Ref sig .tc := ⟨.hbm, 249, rfl⟩
abbrev main_while0b_v172 : Ref sig .tc := ⟨.hbm, 250, rfl⟩
abbrev main_while0b_v173 : Ref sig .tc := ⟨.hbm, 251, rfl⟩
abbrev main_while0b_v174 : Ref sig .tc := ⟨.hbm, 252, rfl⟩
abbrev main_while0b_v175 : Ref sig .tc := ⟨.hbm, 253, rfl⟩
abbrev main_while0b_v176 : Ref sig .tc := ⟨.hbm, 254, rfl⟩
abbrev main_while0b_v177 : Ref sig .tc := ⟨.hbm, 255, rfl⟩
abbrev main_while0b_cst_54 : Ref sig .tc := ⟨.hbm, 256, rfl⟩
abbrev main_while0b_v178 : Ref sig .tc := ⟨.hbm, 257, rfl⟩
abbrev main_while0b_v179 : Ref sig .tc := ⟨.hbm, 258, rfl⟩
abbrev main_while0b_v180 : Ref sig .tc := ⟨.hbm, 259, rfl⟩
abbrev main_while0b_v181 : Ref sig .tc := ⟨.hbm, 260, rfl⟩
abbrev main_while0b_v182 : Ref sig .tc := ⟨.hbm, 261, rfl⟩
abbrev main_while0b_call4_v0 : Ref sig .tc := ⟨.hbm, 262, rfl⟩
abbrev main_while0b_call4_c : Ref sig .tc := ⟨.hbm, 263, rfl⟩
abbrev main_while0b_v183 : Ref sig .tc := ⟨.hbm, 264, rfl⟩
abbrev main_while0b_c_55 : Ref sig .tc := ⟨.hbm, 265, rfl⟩
abbrev main_while0b_v184 : Ref sig .tc := ⟨.hbm, 266, rfl⟩
abbrev main_v101 : Ref sig .tc := ⟨.hbm, 267, rfl⟩
abbrev main_v102 : Ref sig .tc := ⟨.hbm, 268, rfl⟩
abbrev main_v103 : Ref sig .tc := ⟨.hbm, 269, rfl⟩
abbrev main_v104 : Ref sig .tc := ⟨.hbm, 270, rfl⟩
abbrev main_cst_22 : Ref sig .tc := ⟨.hbm, 271, rfl⟩
abbrev main_v105 : Ref sig .tc := ⟨.hbm, 272, rfl⟩
abbrev main_v106 : Ref sig .tc := ⟨.hbm, 273, rfl⟩
abbrev main_v107 : Ref sig .tc := ⟨.hbm, 274, rfl⟩
abbrev main_v108 : Ref sig .tc := ⟨.hbm, 275, rfl⟩
abbrev main_v109 : Ref sig .tc := ⟨.hbm, 276, rfl⟩
abbrev main_cst_23 : Ref sig .tc := ⟨.hbm, 277, rfl⟩
abbrev main_v110 : Ref sig .tc := ⟨.hbm, 278, rfl⟩
abbrev main_v111 : Ref sig .tc := ⟨.hbm, 279, rfl⟩
abbrev main_v112 : Ref sig .tc := ⟨.hbm, 280, rfl⟩
abbrev main_v113 : Ref sig .tc := ⟨.hbm, 281, rfl⟩
abbrev main_v114 : Ref sig .tc := ⟨.hbm, 282, rfl⟩
abbrev main_c_24 : Ref sig .tc := ⟨.hbm, 283, rfl⟩
abbrev main_v115 : Ref sig .tc := ⟨.hbm, 284, rfl⟩

abbrev nD : Nat := 1
abbrev τ : Topo := Topo.v7x

variable {F : FTy → Type} [FloatOps F]

abbrev main_while0_count : Scf.Loop 32 := ⟨0#32, 64#32, 1#32⟩
-- ==== Proof.KernelIdeal.Vars.lean ====
/- The variants at which the body is run: none. -/
module

public import proofs.«01_k».proof.Proof.Gen.KernelIdeal.Frame
public import proofs.«01_k».proof.Proof.Gen.KernelIdeal.Loops
public import Idealize.ShloMosaic.Lib.VecWindow
public import Idealize.ShloMosaic.Lib.WholeRead
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- No variant is used. -/
abbrev 𝒱₀ : Variants := Variants.none

/-- A buffer held at contents that read `X` is owned at `X`. -/
theorem owns_at (c : Dev nD) {sp : Space} {sh : Shape} {e : EltTy} (m : Memref sig .tc sp sh e) {f : m.view.ty.Contents (Elt F)}
    {X : sh.Idx → Elt F e} (h : m.view.read (Elt F) f = X) :
    (m.view.loc (c : Thread nD τ) ↦[m.view.set]{fullShare} f : sProp 𝕄)
      ⊢ iprop(∃ f, ⌜m.view.read (Elt F) f = X⌝ ∗ (m.view.loc (c : Thread nD τ) ↦[m.view.set]{fullShare} f)) := by
  iintro H
  iexists f
  isplitr
  · ipureintro; exact h
  · iexact H

end Cert.KernelIdeal.Hand

end
-- ==== Proof.KernelIdeal.BodyTile.lean ====
/- The first pass of the kernel body at a tile after the first, run on its buffers. -/
module

public import proofs.«01_k».proof.Proof.KernelIdeal.Vars

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (i : grid0.Coords)
variable (arg2 : Memref sig .tc .vmem S64x32 .i32) (harg2 : arg2.IsWhole)
variable (arg3 : Memref sig .tc .vmem S4160x1 .i32) (harg3 : arg3.IsWhole)
variable (arg4 : Memref sig .tc .vmem S4160x1 .i32) (harg4 : arg4.IsWhole)
variable (arg5 : Memref sig .tc .vmem S32x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S1x256 .f32) (harg8 : arg8.IsWhole)
variable (arg9 : Memref sig .tc .vmem S1x256 .f32) (harg9 : arg9.IsWhole)
variable (arg10 : Memref sig .tc .vmem S512x768 .f32) (harg10 : arg10.IsWhole)
variable (arg11 : Memref sig .tc .vmem S1x256 .f32) (harg11 : arg11.IsWhole)
variable (arg12 : Memref sig .tc .vmem S256x1280 .f32) (harg12 : arg12.IsWhole)
variable (arg13 : Memref sig .tc .vmem S256x256 .f32) (harg13 : arg13.IsWhole)
variable (arg14 : Memref sig .tc .vmem S1x256 .f32) (harg14 : arg14.IsWhole)
variable (arg15 : Memref sig .tc .vmem S1x256 .f32) (harg15 : arg15.IsWhole)
variable (arg16 : Memref sig .tc .vmem S256x512 .f32) (harg16 : arg16.IsWhole)
variable (arg17 : Memref sig .tc .vmem S256x256 .f32) (harg17 : arg17.IsWhole)
variable (arg18 : Memref sig .tc .vmem S1x256 .f32) (harg18 : arg18.IsWhole)
variable (arg19 : Memref sig .tc .vmem S256x8192 .f32) (harg19 : arg19.IsWhole)
variable (arg20 : Memref sig .tc .vmem S1x8192 .f32) (harg20 : arg20.IsWhole)
variable (arg21 : Memref sig .tc .vmem S64x8192 .f32) (harg21 : arg21.IsWhole)
variable (arg22 : Memref sig .tc .vmem S64x256 .f32) (harg22 : arg22.IsWhole)
variable (arg23 : Memref sig .tc .vmem S64x768 .f32) (harg23 : arg23.IsWhole)
variable (arg24 : Memref sig .tc .vmem S4x64x8192 .f32) (harg24 : arg24.IsWhole)
variable (arg25 : Memref sig .tc .vmem S64x1 .f32) (harg25 : arg25.IsWhole)
variable (arg26 : Memref sig .tc .vmem S64x1 .f32) (harg26 : arg26.IsWhole)

/-- The condition under which the body starts the running maximum and sum, as it computes it. -/
abbrev startCond : BitVec 1 :=
  let arg1 : BitVec 32 := BitVec.ofNat 32 (i 1).val
  let v37 : BitVec 1 := Scalar.cmpi .eq arg1 0#32
  let v38 : BitVec 32 := Scalar.extui v37
  Scalar.cmpi .ne v38 0#32

/-- The condition under which the body folds a tile into the running maximum and sum, as it computes it. -/
abbrev foldCond : BitVec 1 :=
  let arg1 : BitVec 32 := BitVec.ofNat 32 (i 1).val
  let v40 : BitVec 1 := Scalar.cmpi .sgt arg1 0#32
  let v41 : BitVec 32 := Scalar.extui v40
  Scalar.cmpi .ne v41 0#32

/-- At a point of the first pass after the first tile the body stores the tile's logits in its slab and folds the
    tile into the running maximum and the running sum. -/
theorem body_tile (c : Dev nD) (E : Set ℕ) (h1 : ¬ k0_cond1 i = 1#1) (h2 : k0_cond2 i = 1#1) (h5 : ¬ k0_cond5 i = 1#1)
    (h3 : ¬ startCond i = 1#1) (h4 : foldCond i = 1#1)
    (SC : S4x64x8192.Idx → Elt F .f32) (M S : S64x1.Idx → Elt F .f32) (H : S64x256.Idx → Elt F .f32)
    (W : S256x8192.Idx → Elt F .f32) (B : S1x8192.Idx → Elt F .f32) (K : PUnit → sProp 𝕄) :
    iprop((owns (c : Thread nD τ) arg19 fullShare W ∗ owns (c : Thread nD τ) arg20 fullShare B
            ∗ owns (c : Thread nD τ) arg22 fullShare H ∗ owns (c : Thread nD τ) arg24 fullShare SC
            ∗ owns (c : Thread nD τ) arg25 fullShare M ∗ owns (c : Thread nD τ) arg26 fullShare S)
          ∗ (iprop(owns (c : Thread nD τ) arg19 fullShare W ∗ owns (c : Thread nD τ) arg20 fullShare B
            ∗ owns (c : Thread nD τ) arg22 fullShare H
            ∗ owns (c : Thread nD τ) arg24 fullShare (VecWindow.put (s := S4x64x8192) (α := Elt F .f32) SC (k0_off3 i) S1x64x8192.size (k0_pay5 H W B))
            ∗ owns (c : Thread nD τ) arg25 fullShare (k0_pay13 i H W B M) ∗ owns (c : Thread nD τ) arg26 fullShare (k0_pay12 i H W B M S)) -∗ K ⟨⟩))
      ⊢ wp frame (wpE (defs₀ (F := F)) 𝒱₀ c none) E (cc0__mega_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_body_eq_skeleton]; unfold cc0__mega_body_skel owns
  iintro ⟨⟨⟨%f19, %e19, H19⟩, ⟨%f20, %e20, H20⟩, ⟨%f22, %e22, H22⟩, ⟨%f24, %e24, H24⟩, ⟨%f25, %e25, H25⟩, ⟨%f26, %e26, H26⟩⟩, HK⟩
  sl_exec
  sl_step
  iapply HK
  isplitl [H19]
  · iapply (owns_at c arg19 e19); iexact H19
  isplitl [H20]
  · iapply (owns_at c arg20 e20); iexact H20
  isplitl [H22]
  · iapply (owns_at c arg22 e22); iexact H22
  isplitl [H24]
  · iexists _; isplitr; rotate_left
    · iexact H24
    · ipureintro
      rw [View.read_writes_cons_put _ _ _ _ _ rfl, View.writes_nil, View.readAt_full, View.readAt_full, View.readAt_full, e24, e22, e19, e20]
  isplitl [H25]
  · iexists _; isplitr; rotate_left
    · iexact H25
    · ipureintro
      rw [View.read_writes_full, View.readAt_full, View.readAt_full, View.readAt_full, View.readAt_full, e25, e22, e19, e20]
  iexists _; isplitr; rotate_left
  · iexact H26
  · ipureintro
    rw [View.read_writes_full, View.readAt_full, View.readAt_full, View.readAt_full, View.readAt_full, View.readAt_full, e26, e25, e22, e19, e20]

end Cert.KernelIdeal.Hand

end
-- ==== Proof.KernelIdeal.LoopRun.lean ====
/- The recurrent loop of the kernel body as a recursion on its carried rows. -/
module

public import proofs.«01_k».proof.Proof.KernelIdeal.Vars

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Recursion

variable (b1 ub1 b2 ub2 : FVec F S1x256 .f32) (X12 : Vec F S256x1280 .f32) (X13 : Vec F S256x256 .f32)
  (X16 : Vec F S256x512 .f32) (X17 : Vec F S256x256 .f32) (rows : Fin k0_t1_loop.trips → Vec F S1x768 .f32)

/-- One trip of the loop on its two carried rows: the first layer's new row and the second layer's new row. -/
def gruStep (k : Fin k0_t1_loop.trips) (a : FVec F S1x256 .f32 × FVec F S1x256 .f32) : FVec F S1x256 .f32 × FVec F S1x256 .f32 :=
  (k0_pay17 b1 ub1 a.1 (rows k) X12 X13,
   k0_pay3 ub2 a.2 (Scf.iv 0#32 1#32 k) (k0_pay18 a.1 a.2 X12 X16) (k0_pay19 b2 a.1 a.2 X12 X16 X17))

/-- The row that a trip stores. -/
def gruRow (a : FVec F S1x256 .f32 × FVec F S1x256 .f32) : FVec F S1x256 .f32 :=
  k0_pay2 ub2 a.2 (k0_pay18 a.1 a.2 X12 X16) (k0_pay19 b2 a.1 a.2 X12 X16 X17)

/-- The carried rows before trip `n`, from zero rows. -/
def gruAcc : ℕ → FVec F S1x256 .f32 × FVec F S1x256 .f32
  | 0 => (k0_pay44, k0_pay44)
  | n + 1 => if h : n < k0_t1_loop.trips then gruStep b1 ub1 b2 ub2 X12 X13 X16 X17 rows ⟨n, h⟩ (gruAcc n) else gruAcc n

/-- The buffer of second-layer rows after the loop: row `r` is stored by trip `r + 1`. -/
def gruRows : Vec F S64x256 .f32 := fun y =>
  gruRow b2 ub2 X12 X16 X17 (gruAcc b1 ub1 b2 ub2 X12 X13 X16 X17 rows ((y 0).val + 1)) (fun | ⟨0, _⟩ => (0 : Fin 1) | ⟨1, _⟩ => y 1)

end Recursion

variable (i : grid0.Coords)
variable (arg2 : Memref sig .tc .vmem S64x32 .i32) (harg2 : arg2.IsWhole)
variable (arg3 : Memref sig .tc .vmem S4160x1 .i32) (harg3 : arg3.IsWhole)
variable (arg4 : Memref sig .tc .vmem S4160x1 .i32) (harg4 : arg4.IsWhole)
variable (arg5 : Memref sig .tc .vmem S32x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S1x256 .f32) (harg8 : arg8.IsWhole)
variable (arg9 : Memref sig .tc .vmem S1x256 .f32) (harg9 : arg9.IsWhole)
variable (arg10 : Memref sig .tc .vmem S512x768 .f32) (harg10 : arg10.IsWhole)
variable (arg11 : Memref sig .tc .vmem S1x256 .f32) (harg11 : arg11.IsWhole)
variable (arg12 : Memref sig .tc .vmem S256x1280 .f32) (harg12 : arg12.IsWhole)
variable (arg13 : Memref sig .tc .vmem S256x256 .f32) (harg13 : arg13.IsWhole)
variable (arg14 : Memref sig .tc .vmem S1x256 .f32) (harg14 : arg14.IsWhole)
variable (arg15 : Memref sig .tc .vmem S1x256 .f32) (harg15 : arg15.IsWhole)
variable (arg16 : Memref sig .tc .vmem S256x512 .f32) (harg16 : arg16.IsWhole)
variable (arg17 : Memref sig .tc .vmem S256x256 .f32) (harg17 : arg17.IsWhole)
variable (arg18 : Memref sig .tc .vmem S1x256 .f32) (harg18 : arg18.IsWhole)
variable (arg19 : Memref sig .tc .vmem S256x8192 .f32) (harg19 : arg19.IsWhole)
variable (arg20 : Memref sig .tc .vmem S1x8192 .f32) (harg20 : arg20.IsWhole)
variable (arg21 : Memref sig .tc .vmem S64x8192 .f32) (harg21 : arg21.IsWhole)
variable (arg22 : Memref sig .tc .vmem S64x256 .f32) (harg22 : arg22.IsWhole)
variable (arg23 : Memref sig .tc .vmem S64x768 .f32) (harg23 : arg23.IsWhole)
variable (arg24 : Memref sig .tc .vmem S4x64x8192 .f32) (harg24 : arg24.IsWhole)
variable (arg25 : Memref sig .tc .vmem S64x1 .f32) (harg25 : arg25.IsWhole)
variable (arg26 : Memref sig .tc .vmem S64x1 .f32) (harg26 : arg26.IsWhole)

section Trip

variable (c : Dev nD) (h1 : k0_cond1 i = 1#1) (b1 ub1 b2 ub2 : FVec F S1x256 .f32) (f12 : BufTy.Contents (Elt F) arg12.view.ty)
  (f13 : BufTy.Contents (Elt F) arg13.view.ty) (f16 : BufTy.Contents (Elt F) arg16.view.ty)
  (f17 : BufTy.Contents (Elt F) arg17.view.ty) (f23 : BufTy.Contents (Elt F) arg23.view.ty)

/-- The row of first-layer inputs that a trip reads. -/
abbrev tripRows (IW : Vec F S64x768 .f32) (k : Fin k0_t1_loop.trips) : Vec F S1x768 .f32 :=
  View.ld IW (Rect.unit (s := S64x768) (k0_off1 k) S1x768.size (k0_off1_inb i k h1))

/-- What a trip yields is `gruStep`. -/
theorem trip_yield (k : Fin k0_t1_loop.trips) (a : FVec F S1x256 .f32 × FVec F S1x256 .f32) :
    (trip_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 k).1 a
      = gruStep b1 ub1 b2 ub2 (arg12.view.read (Elt F) f12) (arg13.view.read (Elt F) f13) (arg16.view.read (Elt F) f16)
          (arg17.view.read (Elt F) f17) (tripRows i h1 (arg23.view.read (Elt F) f23)) k a := by
  rw [← View.readAt_full arg12.view f12 inb_S256x1280_S256x1280_0_0, ← View.readAt_full arg13.view f13 inb_S256x256_S256x256_0_0,
    ← View.readAt_full arg16.view f16 inb_S256x512_S256x512_0_0, ← View.readAt_full arg17.view f17 inb_S256x256_S256x256_0_0]
  unfold trip_k0_t1
  rfl

/-- What a trip stores is its one row. -/
theorem trip_pieces (k : Fin k0_t1_loop.trips) (a : FVec F S1x256 .f32 × FVec F S1x256 .f32) :
    (trip_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 k).2.1 a
      = [⟨Rect.unit (s := S64x256) (k0_off2 k) S1x256.size (k0_off2_inb i k h1),
          gruRow b2 ub2 (arg12.view.read (Elt F) f12) (arg16.view.read (Elt F) f16) (arg17.view.read (Elt F) f17) a⟩] := by
  rw [← View.readAt_full arg12.view f12 inb_S256x1280_S256x1280_0_0,
    ← View.readAt_full arg16.view f16 inb_S256x512_S256x512_0_0, ← View.readAt_full arg17.view f17 inb_S256x256_S256x256_0_0]
  unfold trip_k0_t1
  rfl

/-- The carried rows of the loop's state are the recursion's. -/
theorem state_carried (n : ℕ) (hn : n ≤ k0_t1_loop.trips) :
    (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 (k0_pay44, k0_pay44) n).1
      = gruAcc b1 ub1 b2 ub2 (arg12.view.read (Elt F) f12) (arg13.view.read (Elt F) f13) (arg16.view.read (Elt F) f16)
          (arg17.view.read (Elt F) f17) (tripRows i h1 (arg23.view.read (Elt F) f23)) n := by
  induction n with
  | zero => rfl
  | succ n ih =>
    have h : n < k0_t1_loop.trips := hn
    rw [st_k0_t1_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 (k0_pay44, k0_pay44) ⟨n, h⟩]
    show (trip_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 ⟨n, h⟩).1 _ = _
    rw [trip_yield, ih (Nat.le_of_lt h), gruAcc, dif_pos h]

/-- The row offset of a trip's store. -/
theorem off2_row : ∀ k : Fin k0_t1_loop.trips, k0_off2 k 0 = k.val - 1 := by decide +kernel

/-- The column offset of a trip's store. -/
theorem off2_col (k : Fin k0_t1_loop.trips) : k0_off2 k 1 = 0 := rfl

/-- The rows stored before trip `n`: each row is the one the trip after it stored. -/
theorem state_rows (f22 : BufTy.Contents (Elt F) arg22.view.ty) (n : ℕ) (hn : n ≤ k0_t1_loop.trips) (y : S64x256.Idx)
    (hy : (y 0).val + 2 ≤ n) :
    arg22.view.read (Elt F) (arg22.view.writes (Elt F) f22
      (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 (k0_pay44, k0_pay44) n).2) y
      = gruRows b1 ub1 b2 ub2 (arg12.view.read (Elt F) f12) (arg13.view.read (Elt F) f13) (arg16.view.read (Elt F) f16)
          (arg17.view.read (Elt F) f17) (tripRows i h1 (arg23.view.read (Elt F) f23)) y := by
  induction n with
  | zero => omega
  | succ n ih =>
    have h : n < k0_t1_loop.trips := hn
    rw [st_k0_t1_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 (k0_pay44, k0_pay44) ⟨n, h⟩]
    show arg22.view.read (Elt F) (arg22.view.writes (Elt F) f22
      ((trip_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 ⟨n, h⟩).2.1 _ ++ _)) y = _
    rw [trip_pieces, List.singleton_append, View.read_writes_cons_put _ _ _ _ _ rfl, state_carried (n := n) (hn := Nat.le_of_lt h)]
    unfold VecWindow.put
    have r := off2_row ⟨n, h⟩
    have q := off2_col ⟨n, h⟩
    simp only at r
    split
    · rename_i hw
      have h0 := hw 0
      rw [r] at h0
      have e : n = (y 0).val + 1 := by
        have : S1x256.size 0 = 1 := rfl
        omega
      subst e
      unfold gruRows
      congr 1
      funext a
      match a with
      | ⟨0, _⟩ => exact Subsingleton.elim (α := Fin 1) _ _
      | ⟨1, _⟩ => exact Fin.ext (by show (y 1).val - k0_off2 _ 1 = _; rw [off2_col]; rfl)
    · rename_i hw
      refine ih (Nat.le_of_lt h) ?_
      by_contra hc
      refine hw fun a => ?_
      match a with
      | ⟨0, _⟩ =>
        have : S1x256.size 0 = 1 := rfl
        show k0_off2 ⟨n, h⟩ 0 ≤ (y 0).val ∧ (y 0).val < k0_off2 ⟨n, h⟩ 0 + S1x256.size 0
        omega
      | ⟨1, _⟩ =>
        have : S1x256.size 1 = 256 := rfl
        have hb : (y 1).val < 256 := (y 1).isLt
        show k0_off2 ⟨n, h⟩ 1 ≤ (y 1).val ∧ (y 1).val < k0_off2 ⟨n, h⟩ 1 + S1x256.size 1
        omega

/-- The loop runs 65 trips. -/
theorem trips_eq : Scf.trips k0_t1_loop.lb k0_t1_loop.ub k0_t1_loop.st = 65 := by decide +kernel

/-- After the loop the buffer of second-layer rows holds the recursion's rows. -/
theorem state_final (f22 : BufTy.Contents (Elt F) arg22.view.ty) :
    arg22.view.read (Elt F) (arg22.view.writes (Elt F) f22
      (st_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 b1 ub1 b2 ub2 f12 f13 f16 f17 f23 (k0_pay44, k0_pay44)
        (Scf.trips k0_t1_loop.lb k0_t1_loop.ub k0_t1_loop.st)).2)
      = gruRows b1 ub1 b2 ub2 (arg12.view.read (Elt F) f12) (arg13.view.read (Elt F) f13) (arg16.view.read (Elt F) f16)
          (arg17.view.read (Elt F) f17) (tripRows i h1 (arg23.view.read (Elt F) f23)) := by
  funext y
  refine state_rows (hn := le_refl _) (y := y) (hy := ?_) ..
  show (y 0).val + 2 ≤ Scf.trips k0_t1_loop.lb k0_t1_loop.ub k0_t1_loop.st
  rw [trips_eq]
  have : (y 0).val < 64 := (y 0).isLt
  omega

end Trip

end Cert.KernelIdeal.Hand

end
-- ==== Proof.KernelIdeal.BodyFirst.lean ====
/- The first point of the kernel body, run on its buffers. -/
module

public import proofs.«01_k».proof.Proof.KernelIdeal.BodyTile
public import proofs.«01_k».proof.Proof.KernelIdeal.LoopRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first-layer inputs that the body stores before the recurrent loop, from the buffers it reads. -/
def iwVal (X2 : S64x32.Idx → Elt F .i32) (X3 : S4160x1.Idx → Elt F .i32) (X4 : S4160x1.Idx → Elt F .i32) (X5 : S32x256.Idx → Elt F .f32) (X6 : S256x256.Idx → Elt F .f32) (X7 : S1x256.Idx → Elt F .f32) (X8 : S1x256.Idx → Elt F .f32) (X9 : S1x256.Idx → Elt F .f32) (X10 : S512x768.Idx → Elt F .f32) : Vec F S64x768 .f32 :=
  let v111 : FVec F S64x4160 .f32 := k0_pay30 (iota .tc S64x4160 32 [1] iota_S64x4160_d1_w32) k0_pay27 k0_pay28 k0_pay29
  let v134 : Vec F S64x1 .i32 := View.ld X2 (Rect.unit (s := S64x32) ![0, 0] S64x1.size inb_S64x32_S64x1_0_0)
  let v53 : FVec F S32x8 .f32 := k0_pay25 k0_pay22 (k0_pay24 X5 X6 X8) (constant S32x8 .f32 0x00000000#32)
  k0_pay39 (k0_pay20 X5) (k0_pay21 X5 X6) v111 (k0_pay31 k0_pay26 X2 X3) (k0_pay32 v134)
    (k0_pay34 k0_pay26 v111 (k0_pay33 (k0_pay23 X5 X6 X7) v53 k0_pay26 X2 X3 v134) X4)
    k0_pay35 k0_pay36 k0_pay37 k0_pay38 X9 X10

/-- The second-layer rows after the recurrent loop, from the buffers the body reads. -/
def h2Val (i : grid0.Coords) (h1 : k0_cond1 i = 1#1) (X2 : S64x32.Idx → Elt F .i32) (X3 : S4160x1.Idx → Elt F .i32) (X4 : S4160x1.Idx → Elt F .i32) (X5 : S32x256.Idx → Elt F .f32) (X6 : S256x256.Idx → Elt F .f32) (X7 : S1x256.Idx → Elt F .f32) (X8 : S1x256.Idx → Elt F .f32) (X9 : S1x256.Idx → Elt F .f32) (X10 : S512x768.Idx → Elt F .f32) (X11 : S1x256.Idx → Elt F .f32) (X12 : S256x1280.Idx → Elt F .f32) (X13 : S256x256.Idx → Elt F .f32) (X14 : S1x256.Idx → Elt F .f32) (X15 : S1x256.Idx → Elt F .f32) (X16 : S256x512.Idx → Elt F .f32) (X17 : S256x256.Idx → Elt F .f32) (X18 : S1x256.Idx → Elt F .f32) : Vec F S64x256 .f32 :=
  gruRows (k0_pay40 X11) (k0_pay41 X14) (k0_pay42 X15) (k0_pay43 X18) X12 X13 X16 X17 (tripRows i h1 (iwVal X2 X3 X4 X5 X6 X7 X8 X9 X10))

variable (i : grid0.Coords)
variable (arg2 : Memref sig .tc .vmem S64x32 .i32) (harg2 : arg2.IsWhole)
variable (arg3 : Memref sig .tc .vmem S4160x1 .i32) (harg3 : arg3.IsWhole)
variable (arg4 : Memref sig .tc .vmem S4160x1 .i32) (harg4 : arg4.IsWhole)
variable (arg5 : Memref sig .tc .vmem S32x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S1x256 .f32) (harg8 : arg8.IsWhole)
variable (arg9 : Memref sig .tc .vmem S1x256 .f32) (harg9 : arg9.IsWhole)
variable (arg10 : Memref sig .tc .vmem S512x768 .f32) (harg10 : arg10.IsWhole)
variable (arg11 : Memref sig .tc .vmem S1x256 .f32) (harg11 : arg11.IsWhole)
variable (arg12 : Memref sig .tc .vmem S256x1280 .f32) (harg12 : arg12.IsWhole)
variable (arg13 : Memref sig .tc .vmem S256x256 .f32) (harg13 : arg13.IsWhole)
variable (arg14 : Memref sig .tc .vmem S1x256 .f32) (harg14 : arg14.IsWhole)
variable (arg15 : Memref sig .tc .vmem S1x256 .f32) (harg15 : arg15.IsWhole)
variable (arg16 : Memref sig .tc .vmem S256x512 .f32) (harg16 : arg16.IsWhole)
variable (arg17 : Memref sig .tc .vmem S256x256 .f32) (harg17 : arg17.IsWhole)
variable (arg18 : Memref sig .tc .vmem S1x256 .f32) (harg18 : arg18.IsWhole)
variable (arg19 : Memref sig .tc .vmem S256x8192 .f32) (harg19 : arg19.IsWhole)
variable (arg20 : Memref sig .tc .vmem S1x8192 .f32) (harg20 : arg20.IsWhole)
variable (arg21 : Memref sig .tc .vmem S64x8192 .f32) (harg21 : arg21.IsWhole)
variable (arg22 : Memref sig .tc .vmem S64x256 .f32) (harg22 : arg22.IsWhole)
variable (arg23 : Memref sig .tc .vmem S64x768 .f32) (harg23 : arg23.IsWhole)
variable (arg24 : Memref sig .tc .vmem S4x64x8192 .f32) (harg24 : arg24.IsWhole)
variable (arg25 : Memref sig .tc .vmem S64x1 .f32) (harg25 : arg25.IsWhole)
variable (arg26 : Memref sig .tc .vmem S64x1 .f32) (harg26 : arg26.IsWhole)

set_option maxHeartbeats 1600000 in
/-- At the first point the body stores the first-layer inputs, runs the recurrent loop, stores the first tile's logits
    in its slab and starts the running maximum and the running sum. -/
theorem body_first (c : Dev nD) (E : Set ℕ) (h1 : k0_cond1 i = 1#1) (h2 : k0_cond2 i = 1#1) (h5 : ¬ k0_cond5 i = 1#1)
    (h3 : startCond i = 1#1) (h4 : ¬ foldCond i = 1#1)
    (X2 : S64x32.Idx → Elt F .i32) (X3 : S4160x1.Idx → Elt F .i32) (X4 : S4160x1.Idx → Elt F .i32) (X5 : S32x256.Idx → Elt F .f32) (X6 : S256x256.Idx → Elt F .f32) (X7 : S1x256.Idx → Elt F .f32) (X8 : S1x256.Idx → Elt F .f32) (X9 : S1x256.Idx → Elt F .f32) (X10 : S512x768.Idx → Elt F .f32) (X11 : S1x256.Idx → Elt F .f32) (X12 : S256x1280.Idx → Elt F .f32) (X13 : S256x256.Idx → Elt F .f32) (X14 : S1x256.Idx → Elt F .f32) (X15 : S1x256.Idx → Elt F .f32) (X16 : S256x512.Idx → Elt F .f32) (X17 : S256x256.Idx → Elt F .f32) (X18 : S1x256.Idx → Elt F .f32) (X19 : S256x8192.Idx → Elt F .f32) (X20 : S1x8192.Idx → Elt F .f32) (X22 : S64x256.Idx → Elt F .f32) (X23 : S64x768.Idx → Elt F .f32) (X24 : S4x64x8192.Idx → Elt F .f32) (X25 : S64x1.Idx → Elt F .f32) (X26 : S64x1.Idx → Elt F .f32) (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26)
          ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg22 fullShare (h2Val i h1 X2 X3 X4 X5 X6 X7 X8 X9 X10 X11 X12 X13 X14 X15 X16 X17 X18) ∗ owns (c : Thread nD τ) arg23 fullShare (iwVal X2 X3 X4 X5 X6 X7 X8 X9 X10) ∗ owns (c : Thread nD τ) arg24 fullShare (VecWindow.put (s := S4x64x8192) (α := Elt F .f32) X24 (k0_off3 i) S1x64x8192.size (k0_pay5 (h2Val i h1 X2 X3 X4 X5 X6 X7 X8 X9 X10 X11 X12 X13 X14 X15 X16 X17 X18) X19 X20)) ∗ owns (c : Thread nD τ) arg25 fullShare (k0_pay9 i (h2Val i h1 X2 X3 X4 X5 X6 X7 X8 X9 X10 X11 X12 X13 X14 X15 X16 X17 X18) X19 X20) ∗ owns (c : Thread nD τ) arg26 fullShare (k0_pay10 i (h2Val i h1 X2 X3 X4 X5 X6 X7 X8 X9 X10 X11 X12 X13 X14 X15 X16 X17 X18) X19 X20)) -∗ K ⟨⟩))
      ⊢ wp frame (wpE (defs₀ (F := F)) 𝒱₀ c none) E (cc0__mega_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_body_eq_skeleton]; unfold cc0__mega_body_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f22, %e22, H22⟩, ⟨%f23, %e23, H23⟩, ⟨%f24, %e24, H24⟩, ⟨%f25, %e25, H25⟩, ⟨%f26, %e26, H26⟩⟩, HK⟩
  sl_exec
  sl_step
  have eIW : arg23.view.read (Elt F) (arg23.view.writes (Elt F) arg23.view.junk
      (body_first.sl.H23_1 arg2 arg3 arg4 arg5 arg6 arg7 arg8 arg9 arg10 c f2 f3 f4 f5 f6 f7 f8 f9 f10)) = iwVal X2 X3 X4 X5 X6 X7 X8 X9 X10 := by
    subst e2 e3 e4 e5 e6 e7 e8 e9 e10
    unfold body_first.sl.H23_1 iwVal
    rw [View.read_writes_full]
    rw [← View.readAt_eq_ld arg2.view f2, ← View.readAt_full arg2.view f2 inb_S64x32_S64x32_0_0, ← View.readAt_full arg3.view f3 inb_S4160x1_S4160x1_0_0, ← View.readAt_full arg4.view f4 inb_S4160x1_S4160x1_0_0, ← View.readAt_full arg5.view f5 inb_S32x256_S32x256_0_0, ← View.readAt_full arg6.view f6 inb_S256x256_S256x256_0_0, ← View.readAt_full arg7.view f7 inb_S1x256_S1x256_0_0, ← View.readAt_full arg8.view f8 inb_S1x256_S1x256_0_0, ← View.readAt_full arg9.view f9 inb_S1x256_S1x256_0_0, ← View.readAt_full arg10.view f10 inb_S512x768_S512x768_0_0]
    rfl
  have eR : gruRows (body_first.sl.v221 arg11 c f11) (body_first.sl.v223 arg14 c f14) (body_first.sl.v225 arg15 c f15)
      (body_first.sl.v227 arg18 c f18) (arg12.view.read (Elt F) f12) (arg13.view.read (Elt F) f13) (arg16.view.read (Elt F) f16)
      (arg17.view.read (Elt F) f17) (tripRows i h1 (arg23.view.read (Elt F) (arg23.view.writes (Elt F) arg23.view.junk
        (body_first.sl.H23_1 arg2 arg3 arg4 arg5 arg6 arg7 arg8 arg9 arg10 c f2 f3 f4 f5 f6 f7 f8 f9 f10)))) = (h2Val i h1 X2 X3 X4 X5 X6 X7 X8 X9 X10 X11 X12 X13 X14 X15 X16 X17 X18) := by
    rw [eIW, e12, e13, e16, e17]
    unfold body_first.sl.v221 body_first.sl.v223 body_first.sl.v225 body_first.sl.v227
    rw [View.readAt_full, View.readAt_full, View.readAt_full, View.readAt_full, e11, e14, e15, e18]
    rfl
  have eH := (state_final (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c h1 (body_first.sl.v221 arg11 c f11) (body_first.sl.v223 arg14 c f14)
    (body_first.sl.v225 arg15 c f15) (body_first.sl.v227 arg18 c f18) f12 f13 f16 f17
    (arg23.view.writes (Elt F) arg23.view.junk (body_first.sl.H23_1 arg2 arg3 arg4 arg5 arg6 arg7 arg8 arg9 arg10 c f2 f3 f4 f5 f6 f7 f8 f9 f10)) f22).trans eR
  have eV : body_first.sl.v11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 c h1 f2 f3 f4 f5 f6 f7 f8 f9 f10 f11 f12 f13 f14 f15 f16 f17 f18 f22 = (h2Val i h1 X2 X3 X4 X5 X6 X7 X8 X9 X10 X11 X12 X13 X14 X15 X16 X17 X18) := by
    unfold body_first.sl.v11
    rw [View.readAt_full]
    exact eH
  iapply HK
  isplitl [H2]
  · iapply (owns_at c arg2 e2); iexact H2
  isplitl [H3]
  · iapply (owns_at c arg3 e3); iexact H3
  isplitl [H4]
  · iapply (owns_at c arg4 e4); iexact H4
  isplitl [H5]
  · iapply (owns_at c arg5 e5); iexact H5
  isplitl [H6]
  · iapply (owns_at c arg6 e6); iexact H6
  isplitl [H7]
  · iapply (owns_at c arg7 e7); iexact H7
  isplitl [H8]
  · iapply (owns_at c arg8 e8); iexact H8
  isplitl [H9]
  · iapply (owns_at c arg9 e9); iexact H9
  isplitl [H10]
  · iapply (owns_at c arg10 e10); iexact H10
  isplitl [H11]
  · iapply (owns_at c arg11 e11); iexact H11
  isplitl [H12]
  · iapply (owns_at c arg12 e12); iexact H12
  isplitl [H13]
  · iapply (owns_at c arg13 e13); iexact H13
  isplitl [H14]
  · iapply (owns_at c arg14 e14); iexact H14
  isplitl [H15]
  · iapply (owns_at c arg15 e15); iexact H15
  isplitl [H16]
  · iapply (owns_at c arg16 e16); iexact H16
  isplitl [H17]
  · iapply (owns_at c arg17 e17); iexact H17
  isplitl [H18]
  · iapply (owns_at c arg18 e18); iexact H18
  isplitl [H19]
  · iapply (owns_at c arg19 e19); iexact H19
  isplitl [H20]
  · iapply (owns_at c arg20 e20); iexact H20
  isplitl [H22]
  · iapply (owns_at c arg22 eH); iexact H22
  isplitl [H23]
  · iapply (owns_at c arg23 eIW); iexact H23
  isplitl [H24]
  · iexists _; isplitr; rotate_left
    · iexact H24
    · ipureintro
      rw [View.read_writes_cons_put _ _ _ _ _ rfl, View.writes_nil, View.readAt_full, View.readAt_full, eV, e24, e19, e20]
  isplitl [H25]
  · iexists _; isplitr; rotate_left
    · iexact H25
    · ipureintro
      rw [View.read_writes_full, View.readAt_full, View.readAt_full, eV, e19, e20]
  iexists _; isplitr; rotate_left
  · iexact H26
  · ipureintro
    rw [View.read_writes_full, View.readAt_full, View.readAt_full, eV, e19, e20]

end Cert.KernelIdeal.Hand

end
-- ==== Proof.KernelIdeal.BodySecond.lean ====
/- The second pass of the kernel body, run on its buffers. -/
module

public import proofs.«01_k».proof.Proof.KernelIdeal.Vars

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (i : grid0.Coords)
variable (arg2 : Memref sig .tc .vmem S64x32 .i32) (harg2 : arg2.IsWhole)
variable (arg3 : Memref sig .tc .vmem S4160x1 .i32) (harg3 : arg3.IsWhole)
variable (arg4 : Memref sig .tc .vmem S4160x1 .i32) (harg4 : arg4.IsWhole)
variable (arg5 : Memref sig .tc .vmem S32x256 .f32) (harg5 : arg5.IsWhole)
variable (arg6 : Memref sig .tc .vmem S256x256 .f32) (harg6 : arg6.IsWhole)
variable (arg7 : Memref sig .tc .vmem S1x256 .f32) (harg7 : arg7.IsWhole)
variable (arg8 : Memref sig .tc .vmem S1x256 .f32) (harg8 : arg8.IsWhole)
variable (arg9 : Memref sig .tc .vmem S1x256 .f32) (harg9 : arg9.IsWhole)
variable (arg10 : Memref sig .tc .vmem S512x768 .f32) (harg10 : arg10.IsWhole)
variable (arg11 : Memref sig .tc .vmem S1x256 .f32) (harg11 : arg11.IsWhole)
variable (arg12 : Memref sig .tc .vmem S256x1280 .f32) (harg12 : arg12.IsWhole)
variable (arg13 : Memref sig .tc .vmem S256x256 .f32) (harg13 : arg13.IsWhole)
variable (arg14 : Memref sig .tc .vmem S1x256 .f32) (harg14 : arg14.IsWhole)
variable (arg15 : Memref sig .tc .vmem S1x256 .f32) (harg15 : arg15.IsWhole)
variable (arg16 : Memref sig .tc .vmem S256x512 .f32) (harg16 : arg16.IsWhole)
variable (arg17 : Memref sig .tc .vmem S256x256 .f32) (harg17 : arg17.IsWhole)
variable (arg18 : Memref sig .tc .vmem S1x256 .f32) (harg18 : arg18.IsWhole)
variable (arg19 : Memref sig .tc .vmem S256x8192 .f32) (harg19 : arg19.IsWhole)
variable (arg20 : Memref sig .tc .vmem S1x8192 .f32) (harg20 : arg20.IsWhole)
variable (arg21 : Memref sig .tc .vmem S64x8192 .f32) (harg21 : arg21.IsWhole)
variable (arg22 : Memref sig .tc .vmem S64x256 .f32) (harg22 : arg22.IsWhole)
variable (arg23 : Memref sig .tc .vmem S64x768 .f32) (harg23 : arg23.IsWhole)
variable (arg24 : Memref sig .tc .vmem S4x64x8192 .f32) (harg24 : arg24.IsWhole)
variable (arg25 : Memref sig .tc .vmem S64x1 .f32) (harg25 : arg25.IsWhole)
variable (arg26 : Memref sig .tc .vmem S64x1 .f32) (harg26 : arg26.IsWhole)

/-- At a point of the second pass the body reads the running maximum, the running sum and its slab of the stored
    logits, and leaves in the output buffer the payload of those three. -/
theorem body_second (c : Dev nD) (E : Set ℕ) (h1 : ¬ k0_cond1 i = 1#1) (h2 : ¬ k0_cond2 i = 1#1) (h5 : k0_cond5 i = 1#1)
    (SC : S4x64x8192.Idx → Elt F .f32) (M S : S64x1.Idx → Elt F .f32) (X : S64x8192.Idx → Elt F .f32) (K : PUnit → sProp 𝕄) :
    iprop((owns (c : Thread nD τ) arg24 fullShare SC ∗ owns (c : Thread nD τ) arg25 fullShare M ∗ owns (c : Thread nD τ) arg26 fullShare S
            ∗ owns (c : Thread nD τ) arg21 fullShare X)
          ∗ (iprop(owns (c : Thread nD τ) arg24 fullShare SC ∗ owns (c : Thread nD τ) arg25 fullShare M ∗ owns (c : Thread nD τ) arg26 fullShare S
            ∗ owns (c : Thread nD τ) arg21 fullShare (k0_pay14 M S (View.ld SC (Rect.unit (s := S4x64x8192) (k0_off4 i) S1x64x8192.size (k0_off4_inb i h5))))) -∗ K ⟨⟩))
      ⊢ wp frame (wpE (defs₀ (F := F)) 𝒱₀ c none) E (cc0__mega_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__mega_body_eq_skeleton]; unfold cc0__mega_body_skel owns
  iintro ⟨⟨⟨%f24, %e24, H24⟩, ⟨%f25, %e25, H25⟩, ⟨%f26, %e26, H26⟩, ⟨%f21, %e21, H21⟩⟩, HK⟩
  sl_exec
  sl_step
  iapply HK
  isplitl [H24]
  · iapply (owns_at c arg24 e24); iexact H24
  isplitl [H25]
  · iapply (owns_at c arg25 e25); iexact H25
  isplitl [H26]
  · iapply (owns_at c arg26 e26); iexact H26
  iexists _; isplitr; rotate_left
  · iexact H21
  · ipureintro
    rw [View.read_writes_full, View.readAt_full, View.readAt_full, View.readAt_eq_ld, e24, e25, e26]

end Cert.KernelIdeal.Hand

end
-- ==== Proof.KernelIdeal.Data.lean ====
/- The data of a run of the kernel: what each staging buffer and each scratch buffer holds between two grid points. -/
module

public import proofs.«01_k».proof.Proof.KernelIdeal.BodyFirst
public import proofs.«01_k».proof.Proof.KernelIdeal.BodySecond

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A property of the five scratch buffers' contents before a grid point: the hidden state after the recurrent rows, the gate
    inputs, the slabs of logits, the running maximum, the running sum. -/
abbrev ScratchInv (F : FTy → Type) : Type :=
  ℕ → (S64x256.Idx → Elt F .f32) → (S64x768.Idx → Elt F .f32) → (S4x64x8192.Idx → Elt F .f32) → (S64x1.Idx → Elt F .f32) → (S64x1.Idx → Elt F .f32) → Prop

/-- The scratch buffers held at contents with the property `I n`, and the generator register at some state. -/
def scratchAt (I : ScratchInv F) (c : Dev nD) (n : ℕ) : sProp 𝕄 :=
  iprop(∃ H, ∃ IW, ∃ SC, ∃ M, ∃ S, ⌜I n H IW SC M S⌝
    ∗ owns (c : Thread nD τ) (Memref.whole cc0_scratch0) fullShare H ∗ owns (c : Thread nD τ) (Memref.whole cc0_scratch1) fullShare IW
    ∗ owns (c : Thread nD τ) (Memref.whole cc0_scratch2) fullShare SC ∗ owns (c : Thread nD τ) (Memref.whole cc0_scratch3) fullShare M
    ∗ owns (c : Thread nD τ) (Memref.whole cc0_scratch4) fullShare S ∗ ∃ r, prngReg c r)

/-- The proof data of a run whose scratch contents have the property `I` and whose output blocks are `O`: the body leaves every
    input block in place. -/
def datOf (I : ScratchInv F) (O : Dev nD → Fin cfg0.N → S64x8192.Idx → Elt F .f32) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => win0_17.fill (grid0.coords t) (fun _ => Scalar.ofBits .f32 0#32) (iblk m c 17 t)
    | ⟨18, _⟩ => win0_18.fill (grid0.coords t) (fun _ => Scalar.ofBits .f32 0#32) (iblk m c 18 t)
    | ⟨19, _⟩ => O c t
    | ⟨_ + 20, h⟩ => absurd h (Nat.not_lt.mpr (Nat.le_add_left _ _))
  Φ t := scratchAt I c t.val
  q _ := fullShare
  owed _ := 0

variable (I : ScratchInv F) (O : Dev nD → Fin cfg0.N → S64x8192.Idx → Elt F .f32)

/-! ## What each window's buffer holds

Before a point a window's buffer holds the window's block, and the point leaves it there: the lemmas `datOf_before_‹w›` and
`datOf_after_‹w›` of the windows 0 to 18; `datOf_after_19` is the output's. -/

/-- A window's array before the run is the one the operations before the launch leave. -/
theorem datOf_A (c : Dev nD) (w : Fin cfg0.W) : (datOf m I O c).A w = V m c (Pipeline.arrRef spec0 w) := by dsimp only [datOf]

theorem datOf_before_0 (c : Dev nD) (t : Fin cfg0.N) (d) : (datOf m I O c).before 0 t d = iblk m c 0 t :=
  before0_0_of m (datOf m I O c) (datOf_A m I O c 0) (fun t => by dsimp only [datOf]) t d
theorem datOf_before_1 (c : Dev nD) (t : Fin cfg0.N) (d) : (datOf m I O c).before 1 t d = iblk m c 1 t :=
  before0_1_of m (datOf m I O c) (datOf_A m I O c 1) (fun t => by dsimp only [datOf]) t d
theorem datOf_before_2 (c : Dev nD) (t : Fin cfg0.N) (d) : (datOf m I O c).before 2 t d = iblk m c 2 t :=
  before0_2_of m (datOf m I O c) (datOf_A m I O c 2) (fun t => by dsimp only [datOf]) t d
theorem datOf_before_3 (c : Dev nD) (t : Fin cfg0.N) (d) : (datOf m I O c).before 3 t d = iblk m c 3 t :=
  before0_3_of m (datOf m I O c) (datOf_A m I O c 3) (fun t => by dsimp only [datOf]) t d
theorem datOf_before_4 (c : Dev nD) (t : Fin cfg0.N) (d) : (datOf m I O c).before 4 t d = iblk m c 4 t :=
  before0_4_of m (datOf m I O c) (datOf_A m I O c 4) (fun t => by dsimp only [datOf]) t d
theorem datOf_before_5 (c : Dev nD) (t : Fin cfg0.N) (d) : (datOf m I O c).before 5 t d = iblk m c 5 t :=
  before0_5_of m (datOf m I O c) (datOf_A m I O c 5) (fun t => by dsimp only [datOf]) t d
theorem datOf_before_6 (c : Dev nD) (t : Fin cfg0.N) (d) : (datOf m I O c).before 6 t d = iblk m c 6 t :=
  before0_6_of m (datOf m I O c) (datOf_A m I O c 6) (fun t => by dsimp only [datOf]) t d
theorem datOf_before_7 (c : Dev nD) (t : Fin cfg0.N) (d) : (datOf m I O c).before 7 t d = iblk m c 7 t :=
  before0_7_of m (datOf m I O c) (datOf_A m I O c 7) (fun t => by dsimp only [datOf]) t d
theorem datOf_before_8 (c : Dev nD) (t : Fin cfg0.N) (d) : (datOf m I O c).before 8 t d = iblk m c 8 t :=
  before0_8_of m (datOf m I O c) (datOf_A m I O c 8) (fun t => by dsimp only [datOf]) t d
theorem datOf_before_9 (c : Dev nD) (t : Fin cfg0.N) (d) : (datOf m I O c).before 9 t d = iblk m c 9 t :=
  before0_9_of m (datOf m I O c) (datOf_A m I O c 9) (fun t => by dsimp only [datOf]) t d
theorem datOf_before_10 (c : Dev nD) (t : Fin cfg0.N) (d) : (datOf m I O c).before 10 t d = iblk m c 10 t :=
  before0_10_of m (datOf m I O c) (datOf_A m I O c 10) (fun t => by dsimp only [datOf]) t d
theorem datOf_before_11 (c : Dev nD) (t : Fin cfg0.N) (d) : (datOf m I O c).before 11 t d = iblk m c 11 t :=
  before0_11_of m (datOf m I O c) (datOf_A m I O c 11) (fun t => by dsimp only [datOf]) t d
theorem datOf_before_12 (c : Dev nD) (t : Fin cfg0.N) (d) : (datOf m I O c).before 12 t d = iblk m c 12 t :=
  before0_12_of m (datOf m I O c) (datOf_A m I O c 12) (fun t => by dsimp only [datOf]) t d
theorem datOf_before_13 (c : Dev nD) (t : Fin cfg0.N) (d) : (datOf m I O c).before 13 t d = iblk m c 13 t :=
  before0_13_of m (datOf m I O c) (datOf_A m I O c 13) (fun t => by dsimp only [datOf]) t d
theorem datOf_before_14 (c : Dev nD) (t : Fin cfg0.N) (d) : (datOf m I O c).before 14 t d = iblk m c 14 t :=
  before0_14_of m (datOf m I O c) (datOf_A m I O c 14) (fun t => by dsimp only [datOf]) t d
theorem datOf_before_15 (c : Dev nD) (t : Fin cfg0.N) (d) : (datOf m I O c).before 15 t d = iblk m c 15 t :=
  before0_15_of m (datOf m I O c) (datOf_A m I O c 15) (fun t => by dsimp only [datOf]) t d
theorem datOf_before_16 (c : Dev nD) (t : Fin cfg0.N) (d) : (datOf m I O c).before 16 t d = iblk m c 16 t :=
  before0_16_of m (datOf m I O c) (datOf_A m I O c 16) (fun t => by dsimp only [datOf]) t d
/-- Window 17's buffer holds its block inside the array and anything past the array's end, at every point. -/
theorem datOf_before_17 (c : Dev nD) (t : Fin cfg0.N) (d) : (datOf m I O c).before 17 t d = win0_17.fill (grid0.coords t) d (iblk m c 17 t) :=
  ((datOf m I O c).before_in_eq_fetched 17 rfl (fun _ => rfl)
    (fun t t' h => funext fun a => congrArg (fun n => Pipeline.Clip.of n _ _) (congrFun h a))
    (fun t => by
      rw [show (datOf m I O c).after 17 t = win0_17.fill (grid0.coords t) (fun _ => Scalar.ofBits .f32 0#32) (iblk m c 17 t) by dsimp only [datOf]]
      exact (win0_17.cut_fill _ _ _).trans (by unfold Dat.blockOf iblk; rw [datOf_A])) t d).trans
    (by unfold Dat.fetched Dat.blockOf iblk; rw [datOf_A])
/-- Window 18's buffer holds its block inside the array and anything past the array's end, at every point. -/
theorem datOf_before_18 (c : Dev nD) (t : Fin cfg0.N) (d) : (datOf m I O c).before 18 t d = win0_18.fill (grid0.coords t) d (iblk m c 18 t) :=
  ((datOf m I O c).before_in_eq_fetched 18 rfl (fun _ => rfl)
    (fun t t' h => funext fun a => congrArg (fun n => Pipeline.Clip.of n _ _) (congrFun h a))
    (fun t => by
      rw [show (datOf m I O c).after 18 t = win0_18.fill (grid0.coords t) (fun _ => Scalar.ofBits .f32 0#32) (iblk m c 18 t) by dsimp only [datOf]]
      exact (win0_18.cut_fill _ _ _).trans (by unfold Dat.blockOf iblk; rw [datOf_A])) t d).trans
    (by unfold Dat.fetched Dat.blockOf iblk; rw [datOf_A])
theorem datOf_after_0 (c : Dev nD) (t : Fin cfg0.N) : (datOf m I O c).after 0 t = iblk m c 0 t := by dsimp only [datOf]
theorem datOf_after_1 (c : Dev nD) (t : Fin cfg0.N) : (datOf m I O c).after 1 t = iblk m c 1 t := by dsimp only [datOf]
theorem datOf_after_2 (c : Dev nD) (t : Fin cfg0.N) : (datOf m I O c).after 2 t = iblk m c 2 t := by dsimp only [datOf]
theorem datOf_after_3 (c : Dev nD) (t : Fin cfg0.N) : (datOf m I O c).after 3 t = iblk m c 3 t := by dsimp only [datOf]
theorem datOf_after_4 (c : Dev nD) (t : Fin cfg0.N) : (datOf m I O c).after 4 t = iblk m c 4 t := by dsimp only [datOf]
theorem datOf_after_5 (c : Dev nD) (t : Fin cfg0.N) : (datOf m I O c).after 5 t = iblk m c 5 t := by dsimp only [datOf]
theorem datOf_after_6 (c : Dev nD) (t : Fin cfg0.N) : (datOf m I O c).after 6 t = iblk m c 6 t := by dsimp only [datOf]
theorem datOf_after_7 (c : Dev nD) (t : Fin cfg0.N) : (datOf m I O c).after 7 t = iblk m c 7 t := by dsimp only [datOf]
theorem datOf_after_8 (c : Dev nD) (t : Fin cfg0.N) : (datOf m I O c).after 8 t = iblk m c 8 t := by dsimp only [datOf]
theorem datOf_after_9 (c : Dev nD) (t : Fin cfg0.N) : (datOf m I O c).after 9 t = iblk m c 9 t := by dsimp only [datOf]
theorem datOf_after_10 (c : Dev nD) (t : Fin cfg0.N) : (datOf m I O c).after 10 t = iblk m c 10 t := by dsimp only [datOf]
theorem datOf_after_11 (c : Dev nD) (t : Fin cfg0.N) : (datOf m I O c).after 11 t = iblk m c 11 t := by dsimp only [datOf]
theorem datOf_after_12 (c : Dev nD) (t : Fin cfg0.N) : (datOf m I O c).after 12 t = iblk m c 12 t := by dsimp only [datOf]
theorem datOf_after_13 (c : Dev nD) (t : Fin cfg0.N) : (datOf m I O c).after 13 t = iblk m c 13 t := by dsimp only [datOf]
theorem datOf_after_14 (c : Dev nD) (t : Fin cfg0.N) : (datOf m I O c).after 14 t = iblk m c 14 t := by dsimp only [datOf]
theorem datOf_after_15 (c : Dev nD) (t : Fin cfg0.N) : (datOf m I O c).after 15 t = iblk m c 15 t := by dsimp only [datOf]
theorem datOf_after_16 (c : Dev nD) (t : Fin cfg0.N) : (datOf m I O c).after 16 t = iblk m c 16 t := by dsimp only [datOf]
theorem datOf_after_17 (c : Dev nD) (t : Fin cfg0.N) : (datOf m I O c).after 17 t = win0_17.fill (grid0.coords t) (fun _ => Scalar.ofBits .f32 0#32) (iblk m c 17 t) := by dsimp only [datOf]
theorem datOf_after_18 (c : Dev nD) (t : Fin cfg0.N) : (datOf m I O c).after 18 t = win0_18.fill (grid0.coords t) (fun _ => Scalar.ofBits .f32 0#32) (iblk m c 18 t) := by dsimp only [datOf]
theorem datOf_after_19 (c : Dev nD) (t : Fin cfg0.N) : (datOf m I O c).after 19 t = O c t := by dsimp only [datOf]

/-! ## The grid points' cases -/

/-- At the first point the front end and a first tile run. -/
theorem conds_first (t : Fin cfg0.N) (h : t.val = 0) : k0_cond1 (grid0.coords t) = 1#1 ∧ k0_cond2 (grid0.coords t) = 1#1 ∧ ¬ k0_cond5 (grid0.coords t) = 1#1
    ∧ startCond (grid0.coords t) = 1#1 ∧ ¬ foldCond (grid0.coords t) = 1#1 := by
  revert t; decide +kernel
/-- At the next three points a further tile runs. -/
theorem conds_tile (t : Fin cfg0.N) (h : t.val ≠ 0) (h' : t.val < 4) : ¬ k0_cond1 (grid0.coords t) = 1#1 ∧ k0_cond2 (grid0.coords t) = 1#1 ∧ ¬ k0_cond5 (grid0.coords t) = 1#1
    ∧ ¬ startCond (grid0.coords t) = 1#1 ∧ foldCond (grid0.coords t) = 1#1 := by
  revert t; decide +kernel
/-- At the last four points an output block is written. -/
theorem conds_second (t : Fin cfg0.N) (h' : ¬ t.val < 4) : ¬ k0_cond1 (grid0.coords t) = 1#1 ∧ ¬ k0_cond2 (grid0.coords t) = 1#1 ∧ k0_cond5 (grid0.coords t) = 1#1 := by
  revert t; decide +kernel
/-- The output's blocks go out at the last four points. -/
theorem flush_out (t : Fin cfg0.N) : (cfg0.win 19).flush t = true ↔ ¬ t.val < 4 := by
  revert t; decide +kernel

end Cert.KernelIdeal.Hand

end
-- ==== Proof.KernelIdeal.Point.lean ====
/- The kernel's body keeps the data of a run from each grid point to the next. -/
module

public import proofs.«01_k».proof.Proof.KernelIdeal.Data

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR sig nD τ) ℕ

variable (m : (ℓ : Loc nD τ sig) → Buf (Elt F) ℓ) (I : ScratchInv F) (O : Dev nD → Fin cfg0.N → S64x8192.Idx → Elt F .f32)

/-- The scratch contents the first point leaves have the property. -/
def FirstOK : Prop := ∀ (c : Dev nD) (t : Fin cfg0.N) (h : k0_cond1 (grid0.coords t) = 1#1) (ht : t.val = 0) (d17 : S256x8192.Idx → Elt F .f32) (d18 : S1x8192.Idx → Elt F .f32) (SC : S4x64x8192.Idx → Elt F .f32)
    (hc : k0_cond2 (grid0.coords t) = 1#1),
  I 1 (h2Val (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (iwVal (iblk m c 0 t) (iblk m c 1 t) (iblk m c 2 t) (iblk m c 3 t) (iblk m c 4 t) (iblk m c 5 t) (iblk m c 6 t) (iblk m c 7 t) (iblk m c 8 t))
    (VecWindow.put (s := S4x64x8192) (α := Elt F .f32) SC (k0_off3 (grid0.coords t)) S1x64x8192.size (k0_pay5 (h2Val (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (win0_17.fill (grid0.coords t) d17 (iblk m c 17 t)) (win0_18.fill (grid0.coords t) d18 (iblk m c 18 t))))
    (k0_pay9 (grid0.coords t) (h2Val (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (win0_17.fill (grid0.coords t) d17 (iblk m c 17 t)) (win0_18.fill (grid0.coords t) d18 (iblk m c 18 t))) (k0_pay10 (grid0.coords t) (h2Val (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) (win0_17.fill (grid0.coords t) d17 (iblk m c 17 t)) (win0_18.fill (grid0.coords t) d18 (iblk m c 18 t)))

/-- Each further tile's point carries the property on. -/
def TileOK : Prop := ∀ (c : Dev nD) (t : Fin cfg0.N) (ht : t.val ≠ 0) (ht4 : t.val < 4) (d17 : S256x8192.Idx → Elt F .f32) (d18 : S1x8192.Idx → Elt F .f32) H IW SC M S, I t.val H IW SC M S →
  I (t.val + 1) H IW
    (VecWindow.put (s := S4x64x8192) (α := Elt F .f32) SC (k0_off3 (grid0.coords t)) S1x64x8192.size (k0_pay5 H (win0_17.fill (grid0.coords t) d17 (iblk m c 17 t)) (win0_18.fill (grid0.coords t) d18 (iblk m c 18 t))))
    (k0_pay13 (grid0.coords t) H (win0_17.fill (grid0.coords t) d17 (iblk m c 17 t)) (win0_18.fill (grid0.coords t) d18 (iblk m c 18 t)) M) (k0_pay12 (grid0.coords t) H (win0_17.fill (grid0.coords t) d17 (iblk m c 17 t)) (win0_18.fill (grid0.coords t) d18 (iblk m c 18 t)) M S)

/-- Each point of the second pass carries the property on. -/
def SecondOK : Prop := ∀ (t : Fin cfg0.N) (ht : ¬ t.val < 4) H IW SC M S, I t.val H IW SC M S → I (t.val + 1) H IW SC M S

/-- Each point of the second pass leaves the output block `O` inside the array. -/
def OutOK : Prop := ∀ (c : Dev nD) (t : Fin cfg0.N) (ht : ¬ t.val < 4) (h5 : k0_cond5 (grid0.coords t) = 1#1) H IW SC M S, I t.val H IW SC M S →
  win0_19.cut (grid0.coords t) (k0_pay14 M S (View.ld SC (Rect.unit (s := S4x64x8192) (k0_off4 (grid0.coords t)) S1x64x8192.size (k0_off4_inb (grid0.coords t) h5))))
    = win0_19.cut (grid0.coords t) (O c t)

variable {m I O}

set_option maxHeartbeats 1600000 in
/-- The first point. -/
theorem point_first (c : Dev nD) (t : Fin cfg0.N) (hF : FirstOK m I) (ht : t.val = 0) (X : sProp 𝕄) :
    iprop(scratchAt I c t.val ∗ (datOf m I O c).owesAt () t.castSucc ∗ (∃ d, owns (c : Thread nD τ) (st0_0 t) fullShare ((datOf m I O c).before 0 t d)) ∗ (∃ d, owns (c : Thread nD τ) (st0_1 t) fullShare ((datOf m I O c).before 1 t d)) ∗ (∃ d, owns (c : Thread nD τ) (st0_2 t) fullShare ((datOf m I O c).before 2 t d)) ∗ (∃ d, owns (c : Thread nD τ) (st0_3 t) fullShare ((datOf m I O c).before 3 t d)) ∗ (∃ d, owns (c : Thread nD τ) (st0_4 t) fullShare ((datOf m I O c).before 4 t d)) ∗ (∃ d, owns (c : Thread nD τ) (st0_5 t) fullShare ((datOf m I O c).before 5 t d)) ∗ (∃ d, owns (c : Thread nD τ) (st0_6 t) fullShare ((datOf m I O c).before 6 t d)) ∗ (∃ d, owns (c : Thread nD τ) (st0_7 t) fullShare ((datOf m I O c).before 7 t d)) ∗ (∃ d, owns (c : Thread nD τ) (st0_8 t) fullShare ((datOf m I O c).before 8 t d)) ∗ (∃ d, owns (c : Thread nD τ) (st0_9 t) fullShare ((datOf m I O c).before 9 t d)) ∗ (∃ d, owns (c : Thread nD τ) (st0_10 t) fullShare ((datOf m I O c).before 10 t d)) ∗ (∃ d, owns (c : Thread nD τ) (st0_11 t) fullShare ((datOf m I O c).before 11 t d)) ∗ (∃ d, owns (c : Thread nD τ) (st0_12 t) fullShare ((datOf m I O c).before 12 t d)) ∗ (∃ d, owns (c : Thread nD τ) (st0_13 t) fullShare ((datOf m I O c).before 13 t d)) ∗ (∃ d, owns (c : Thread nD τ) (st0_14 t) fullShare ((datOf m I O c).before 14 t d)) ∗ (∃ d, owns (c : Thread nD τ) (st0_15 t) fullShare ((datOf m I O c).before 15 t d)) ∗ (∃ d, owns (c : Thread nD τ) (st0_16 t) fullShare ((datOf m I O c).before 16 t d)) ∗ (∃ d, owns (c : Thread nD τ) (st0_17 t) fullShare ((datOf m I O c).before 17 t d)) ∗ (∃ d, owns (c : Thread nD τ) (st0_18 t) fullShare ((datOf m I O c).before 18 t d)) ∗ X)
      ⊢ wp frame (wpE (defs₀ (F := F)) 𝒱₀ c none) Set.univ (bodyAt0 t) (fun _ =>
        iprop(scratchAt I c (t.val + 1) ∗ (datOf m I O c).owesAt () t.castSucc ∗ owns (c : Thread nD τ) (st0_0 t) fullShare ((datOf m I O c).after 0 t) ∗ owns (c : Thread nD τ) (st0_1 t) fullShare ((datOf m I O c).after 1 t) ∗ owns (c : Thread nD τ) (st0_2 t) fullShare ((datOf m I O c).after 2 t) ∗ owns (c : Thread nD τ) (st0_3 t) fullShare ((datOf m I O c).after 3 t) ∗ owns (c : Thread nD τ) (st0_4 t) fullShare ((datOf m I O c).after 4 t) ∗ owns (c : Thread nD τ) (st0_5 t) fullShare ((datOf m I O c).after 5 t) ∗ owns (c : Thread nD τ) (st0_6 t) fullShare ((datOf m I O c).after 6 t) ∗ owns (c : Thread nD τ) (st0_7 t) fullShare ((datOf m I O c).after 7 t) ∗ owns (c : Thread nD τ) (st0_8 t) fullShare ((datOf m I O c).after 8 t) ∗ owns (c : Thread nD τ) (st0_9 t) fullShare ((datOf m I O c).after 9 t) ∗ owns (c : Thread nD τ) (st0_10 t) fullShare ((datOf m I O c).after 10 t) ∗ owns (c : Thread nD τ) (st0_11 t) fullShare ((datOf m I O c).after 11 t) ∗ owns (c : Thread nD τ) (st0_12 t) fullShare ((datOf m I O c).after 12 t) ∗ owns (c : Thread nD τ) (st0_13 t) fullShare ((datOf m I O c).after 13 t) ∗ owns (c : Thread nD τ) (st0_14 t) fullShare ((datOf m I O c).after 14 t) ∗ owns (c : Thread nD τ) (st0_15 t) fullShare ((datOf m I O c).after 15 t) ∗ owns (c : Thread nD τ) (st0_16 t) fullShare ((datOf m I O c).after 16 t) ∗ (∃ d, owns (c : Thread nD τ) (st0_17 t) fullShare (win0_17.fill (grid0.coords t) d (win0_17.cut (grid0.coords t) ((datOf m I O c).after 17 t)))) ∗ (∃ d, owns (c : Thread nD τ) (st0_18 t) fullShare (win0_18.fill (grid0.coords t) d (win0_18.cut (grid0.coords t) ((datOf m I O c).after 18 t)))) ∗ X)) := by
  simp only [datOf_before_0, datOf_before_1, datOf_before_2, datOf_before_3, datOf_before_4, datOf_before_5, datOf_before_6, datOf_before_7, datOf_before_8, datOf_before_9, datOf_before_10, datOf_before_11, datOf_before_12, datOf_before_13, datOf_before_14, datOf_before_15, datOf_before_16, datOf_before_17, datOf_before_18, datOf_after_0, datOf_after_1, datOf_after_2, datOf_after_3, datOf_after_4, datOf_after_5, datOf_after_6, datOf_after_7, datOf_after_8, datOf_after_9, datOf_after_10, datOf_after_11, datOf_after_12, datOf_after_13, datOf_after_14, datOf_after_15, datOf_after_16, datOf_after_17, datOf_after_18, win0_17.cut_fill, win0_18.cut_fill]
  rw [show (scratchAt I c t.val : sProp 𝕄) = _ from rfl]
  unfold scratchAt
  iintro ⟨⟨%H, %IW, %SC, %M, %S, %hI, HH, HIW, HSC, HM, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19⟩
  obtain ⟨h1, h2, h5, h3, h4⟩ := conds_first t ht
  iapply (body_first (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c Set.univ h1 h2 h5 h3 h4 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (win0_17.fill (grid0.coords t) d17 (iblk m c 17 t)) (win0_18.fill (grid0.coords t) d18 (iblk m c 18 t)) H IW SC M S _)
  isplitl [H0 H1 H2 H3 H4 H5 H6 H7 H8 H9 H10 H11 H12 H13 H14 H15 H16 H17 H18 HH HIW HSC HM HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HH]; · iexact HH
    isplitl [HIW]; · iexact HIW
    isplitl [HSC]; · iexact HSC
    isplitl [HM]; · iexact HM
    iexact HS
  · iintro ⟨H0, H1, H2, H3, H4, H5, H6, H7, H8, H9, H10, H11, H12, H13, H14, H15, H16, H17, H18, HH, HIW, HSC, HM, HS⟩
    isplitl [HH HIW HSC HM HS Hr]
    · iexists _, _, _, _, _
      isplitr; · ipureintro; exact (by rw [ht]; exact hF c t h1 ht d17 d18 SC h2)
      isplitl [HH]; · iexact HH
      isplitl [HIW]; · iexact HIW
      isplitl [HSC]; · iexact HSC
      isplitl [HM]; · iexact HM
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists d17; iexact H17
    isplitl [H18]; · iexists d18; iexact H18
    iexact H19

set_option maxHeartbeats 1600000 in
/-- A further tile's point. -/
theorem point_tile (c : Dev nD) (t : Fin cfg0.N) (hT : TileOK m I) (ht : t.val ≠ 0) (ht4 : t.val < 4) (X : sProp 𝕄) :
    iprop(scratchAt I c t.val ∗ (datOf m I O c).owesAt () t.castSucc ∗ (∃ d, owns (c : Thread nD τ) (st0_0 t) fullShare ((datOf m I O c).before 0 t d)) ∗ (∃ d, owns (c : Thread nD τ) (st0_1 t) fullShare ((datOf m I O c).before 1 t d)) ∗ (∃ d, owns (c : Thread nD τ) (st0_2 t) fullShare ((datOf m I O c).before 2 t d)) ∗ (∃ d, owns (c : Thread nD τ) (st0_3 t) fullShare ((datOf m I O c).before 3 t d)) ∗ (∃ d, owns (c : Thread nD τ) (st0_4 t) fullShare ((datOf m I O c).before 4 t d)) ∗ (∃ d, owns (c : Thread nD τ) (st0_5 t) fullShare ((datOf m I O c).before 5 t d)) ∗ (∃ d, owns (c : Thread nD τ) (st0_6 t) fullShare ((datOf m I O c).before 6 t d)) ∗ (∃ d, owns (c : Thread nD τ) (st0_7 t) fullShare ((datOf m I O c).before 7 t d)) ∗ (∃ d, owns (c : Thread nD τ) (st0_8 t) fullShare ((datOf m I O c).before 8 t d)) ∗ (∃ d, owns (c : Thread nD τ) (st0_9 t) fullShare ((datOf m I O c).before 9 t d)) ∗ (∃ d, owns (c : Thread nD τ) (st0_10 t) fullShare ((datOf m I O c).before 10 t d)) ∗ (∃ d, owns (c : Thread nD τ) (st0_11 t) fullShare ((datOf m I O c).before 11 t d)) ∗ (∃ d, owns (c : Thread nD τ) (st0_12 t) fullShare ((datOf m I O c).before 12 t d)) ∗ (∃ d, owns (c : Thread nD τ) (st0_13 t) fullShare ((datOf m I O c).before 13 t d)) ∗ (∃ d, owns (c : Thread nD τ) (st0_14 t) fullShare ((datOf m I O c).before 14 t d)) ∗ (∃ d, owns (c : Thread nD τ) (st0_15 t) fullShare ((datOf m I O c).before 15 t d)) ∗ (∃ d, owns (c : Thread nD τ) (st0_16 t) fullShare ((datOf m I O c).before 16 t d)) ∗ (∃ d, owns (c : Thread nD τ) (st0_17 t) fullShare ((datOf m I O c).before 17 t d)) ∗ (∃ d, owns (c : Thread nD τ) (st0_18 t) fullShare ((datOf m I O c).before 18 t d)) ∗ X)
      ⊢ wp frame (wpE (defs₀ (F := F)) 𝒱₀ c none) Set.univ (bodyAt0 t) (fun _ =>
        iprop(scratchAt I c (t.val + 1) ∗ (datOf m I O c).owesAt () t.castSucc ∗ owns (c : Thread nD τ) (st0_0 t) fullShare ((datOf m I O c).after 0 t) ∗ owns (c : Thread nD τ) (st0_1 t) fullShare ((datOf m I O c).after 1 t) ∗ owns (c : Thread nD τ) (st0_2 t) fullShare ((datOf m I O c).after 2 t) ∗ owns (c : Thread nD τ) (st0_3 t) fullShare ((datOf m I O c).after 3 t) ∗ owns (c : Thread nD τ) (st0_4 t) fullShare ((datOf m I O c).after 4 t) ∗ owns (c : Thread nD τ) (st0_5 t) fullShare ((datOf m I O c).after 5 t) ∗ owns (c : Thread nD τ) (st0_6 t) fullShare ((datOf m I O c).after 6 t) ∗ owns (c : Thread nD τ) (st0_7 t) fullShare ((datOf m I O c).after 7 t) ∗ owns (c : Thread nD τ) (st0_8 t) fullShare ((datOf m I O c).after 8 t) ∗ owns (c : Thread nD τ) (st0_9 t) fullShare ((datOf m I O c).after 9 t) ∗ owns (c : Thread nD τ) (st0_10 t) fullShare ((datOf m I O c).after 10 t) ∗ owns (c : Thread nD τ) (st0_11 t) fullShare ((datOf m I O c).after 11 t) ∗ owns (c : Thread nD τ) (st0_12 t) fullShare ((datOf m I O c).after 12 t) ∗ owns (c : Thread nD τ) (st0_13 t) fullShare ((datOf m I O c).after 13 t) ∗ owns (c : Thread nD τ) (st0_14 t) fullShare ((datOf m I O c).after 14 t) ∗ owns (c : Thread nD τ) (st0_15 t) fullShare ((datOf m I O c).after 15 t) ∗ owns (c : Thread nD τ) (st0_16 t) fullShare ((datOf m I O c).after 16 t) ∗ (∃ d, owns (c : Thread nD τ) (st0_17 t) fullShare (win0_17.fill (grid0.coords t) d (win0_17.cut (grid0.coords t) ((datOf m I O c).after 17 t)))) ∗ (∃ d, owns (c : Thread nD τ) (st0_18 t) fullShare (win0_18.fill (grid0.coords t) d (win0_18.cut (grid0.coords t) ((datOf m I O c).after 18 t)))) ∗ X)) := by
  simp only [datOf_before_0, datOf_before_1, datOf_before_2, datOf_before_3, datOf_before_4, datOf_before_5, datOf_before_6, datOf_before_7, datOf_before_8, datOf_before_9, datOf_before_10, datOf_before_11, datOf_before_12, datOf_before_13, datOf_before_14, datOf_before_15, datOf_before_16, datOf_before_17, datOf_before_18, datOf_after_0, datOf_after_1, datOf_after_2, datOf_after_3, datOf_after_4, datOf_after_5, datOf_after_6, datOf_after_7, datOf_after_8, datOf_after_9, datOf_after_10, datOf_after_11, datOf_after_12, datOf_after_13, datOf_after_14, datOf_after_15, datOf_after_16, datOf_after_17, datOf_after_18, win0_17.cut_fill, win0_18.cut_fill]
  rw [show (scratchAt I c t.val : sProp 𝕄) = _ from rfl]
  unfold scratchAt
  iintro ⟨⟨%H, %IW, %SC, %M, %S, %hI, HH, HIW, HSC, HM, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19⟩
  obtain ⟨h1, h2, h5, h3, h4⟩ := conds_tile t ht ht4
  iapply (body_tile (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c Set.univ h1 h2 h5 h3 h4 SC M S H (win0_17.fill (grid0.coords t) d17 (iblk m c 17 t)) (win0_18.fill (grid0.coords t) d18 (iblk m c 18 t)) _)
  isplitl [H17 H18 HH HSC HM HS]
  · isplitl [H17]; · iexact H17
    isplitl [H18]; · iexact H18
    isplitl [HH]; · iexact HH
    isplitl [HSC]; · iexact HSC
    isplitl [HM]; · iexact HM
    iexact HS
  · iintro ⟨H17, H18, HH, HSC, HM, HS⟩
    isplitl [HH HIW HSC HM HS Hr]
    · iexists _, _, _, _, _
      isplitr; · ipureintro; exact hT c t ht ht4 d17 d18 H IW SC M S hI
      isplitl [HH]; · iexact HH
      isplitl [HIW]; · iexact HIW
      isplitl [HSC]; · iexact HSC
      isplitl [HM]; · iexact HM
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists d17; iexact H17
    isplitl [H18]; · iexists d18; iexact H18
    iexact H19

set_option maxHeartbeats 1600000 in
/-- A point of the second pass. -/
theorem point_second (c : Dev nD) (t : Fin cfg0.N) (hS : SecondOK I) (ht : ¬ t.val < 4) :
    iprop(scratchAt I c t.val ∗ (datOf m I O c).owesAt () t.castSucc ∗ (∃ d, owns (c : Thread nD τ) (st0_0 t) fullShare ((datOf m I O c).before 0 t d)) ∗ (∃ d, owns (c : Thread nD τ) (st0_1 t) fullShare ((datOf m I O c).before 1 t d)) ∗ (∃ d, owns (c : Thread nD τ) (st0_2 t) fullShare ((datOf m I O c).before 2 t d)) ∗ (∃ d, owns (c : Thread nD τ) (st0_3 t) fullShare ((datOf m I O c).before 3 t d)) ∗ (∃ d, owns (c : Thread nD τ) (st0_4 t) fullShare ((datOf m I O c).before 4 t d)) ∗ (∃ d, owns (c : Thread nD τ) (st0_5 t) fullShare ((datOf m I O c).before 5 t d)) ∗ (∃ d, owns (c : Thread nD τ) (st0_6 t) fullShare ((datOf m I O c).before 6 t d)) ∗ (∃ d, owns (c : Thread nD τ) (st0_7 t) fullShare ((datOf m I O c).before 7 t d)) ∗ (∃ d, owns (c : Thread nD τ) (st0_8 t) fullShare ((datOf m I O c).before 8 t d)) ∗ (∃ d, owns (c : Thread nD τ) (st0_9 t) fullShare ((datOf m I O c).before 9 t d)) ∗ (∃ d, owns (c : Thread nD τ) (st0_10 t) fullShare ((datOf m I O c).before 10 t d)) ∗ (∃ d, owns (c : Thread nD τ) (st0_11 t) fullShare ((datOf m I O c).before 11 t d)) ∗ (∃ d, owns (c : Thread nD τ) (st0_12 t) fullShare ((datOf m I O c).before 12 t d)) ∗ (∃ d, owns (c : Thread nD τ) (st0_13 t) fullShare ((datOf m I O c).before 13 t d)) ∗ (∃ d, owns (c : Thread nD τ) (st0_14 t) fullShare ((datOf m I O c).before 14 t d)) ∗ (∃ d, owns (c : Thread nD τ) (st0_15 t) fullShare ((datOf m I O c).before 15 t d)) ∗ (∃ d, owns (c : Thread nD τ) (st0_16 t) fullShare ((datOf m I O c).before 16 t d)) ∗ (∃ d, owns (c : Thread nD τ) (st0_17 t) fullShare ((datOf m I O c).before 17 t d)) ∗ (∃ d, owns (c : Thread nD τ) (st0_18 t) fullShare ((datOf m I O c).before 18 t d)) ∗ (∃ X, owns (c : Thread nD τ) (st0_19 t) fullShare X))
      ⊢ wp frame (wpE (defs₀ (F := F)) 𝒱₀ c none) Set.univ (bodyAt0 t) (fun _ =>
        iprop(scratchAt I c (t.val + 1) ∗ (datOf m I O c).owesAt () t.castSucc ∗ owns (c : Thread nD τ) (st0_0 t) fullShare ((datOf m I O c).after 0 t) ∗ owns (c : Thread nD τ) (st0_1 t) fullShare ((datOf m I O c).after 1 t) ∗ owns (c : Thread nD τ) (st0_2 t) fullShare ((datOf m I O c).after 2 t) ∗ owns (c : Thread nD τ) (st0_3 t) fullShare ((datOf m I O c).after 3 t) ∗ owns (c : Thread nD τ) (st0_4 t) fullShare ((datOf m I O c).after 4 t) ∗ owns (c : Thread nD τ) (st0_5 t) fullShare ((datOf m I O c).after 5 t) ∗ owns (c : Thread nD τ) (st0_6 t) fullShare ((datOf m I O c).after 6 t) ∗ owns (c : Thread nD τ) (st0_7 t) fullShare ((datOf m I O c).after 7 t) ∗ owns (c : Thread nD τ) (st0_8 t) fullShare ((datOf m I O c).after 8 t) ∗ owns (c : Thread nD τ) (st0_9 t) fullShare ((datOf m I O c).after 9 t) ∗ owns (c : Thread nD τ) (st0_10 t) fullShare ((datOf m I O c).after 10 t) ∗ owns (c : Thread nD τ) (st0_11 t) fullShare ((datOf m I O c).after 11 t) ∗ owns (c : Thread nD τ) (st0_12 t) fullShare ((datOf m I O c).after 12 t) ∗ owns (c : Thread nD τ) (st0_13 t) fullShare ((datOf m I O c).after 13 t) ∗ owns (c : Thread nD τ) (st0_14 t) fullShare ((datOf m I O c).after 14 t) ∗ owns (c : Thread nD τ) (st0_15 t) fullShare ((datOf m I O c).after 15 t) ∗ owns (c : Thread nD τ) (st0_16 t) fullShare ((datOf m I O c).after 16 t) ∗ (∃ d, owns (c : Thread nD τ) (st0_17 t) fullShare (win0_17.fill (grid0.coords t) d (win0_17.cut (grid0.coords t) ((datOf m I O c).after 17 t)))) ∗ (∃ d, owns (c : Thread nD τ) (st0_18 t) fullShare (win0_18.fill (grid0.coords t) d (win0_18.cut (grid0.coords t) ((datOf m I O c).after 18 t)))) ∗ (∃ H, ∃ IW, ∃ SC, ∃ M, ∃ S, ∃ h5, ⌜I t.val H IW SC M S⌝ ∗ owns (c : Thread nD τ) (st0_19 t) fullShare (k0_pay14 M S (View.ld SC (Rect.unit (s := S4x64x8192) (k0_off4 (grid0.coords t)) S1x64x8192.size (k0_off4_inb (grid0.coords t) h5))))))) := by
  simp only [datOf_before_0, datOf_before_1, datOf_before_2, datOf_before_3, datOf_before_4, datOf_before_5, datOf_before_6, datOf_before_7, datOf_before_8, datOf_before_9, datOf_before_10, datOf_before_11, datOf_before_12, datOf_before_13, datOf_before_14, datOf_before_15, datOf_before_16, datOf_before_17, datOf_before_18, datOf_after_0, datOf_after_1, datOf_after_2, datOf_after_3, datOf_after_4, datOf_after_5, datOf_after_6, datOf_after_7, datOf_after_8, datOf_after_9, datOf_after_10, datOf_after_11, datOf_after_12, datOf_after_13, datOf_after_14, datOf_after_15, datOf_after_16, datOf_after_17, datOf_after_18, win0_17.cut_fill, win0_18.cut_fill]
  rw [show (scratchAt I c t.val : sProp 𝕄) = _ from rfl]
  unfold scratchAt
  iintro ⟨⟨%H, %IW, %SC, %M, %S, %hI, HH, HIW, HSC, HM, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19⟩
  icases H19 with ⟨%X19, H19⟩
  obtain ⟨h1, h2, h5⟩ := conds_second t ht
  iapply (body_second (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) c Set.univ h1 h2 h5 SC M S X19 _)
  isplitl [HSC HM HS H19]
  · isplitl [HSC]; · iexact HSC
    isplitl [HM]; · iexact HM
    isplitl [HS]; · iexact HS
    iexact H19
  · iintro ⟨HSC, HM, HS, H19⟩
    isplitl [HH HIW HSC HM HS Hr]
    · iexists _, _, _, _, _
      isplitr; · ipureintro; exact hS t ht H IW SC M S hI
      isplitl [HH]; · iexact HH
      isplitl [HIW]; · iexact HIW
      isplitl [HSC]; · iexact HSC
      isplitl [HM]; · iexact HM
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists d17; iexact H17
    isplitl [H18]; · iexists d18; iexact H18
    iexists H, IW, SC, M, S, h5
    isplitr; · ipureintro; exact hI
    iexact H19

end Cert.KernelIdeal.Hand

end
-- ==== Proof.KernelIdeal.Obligation.lean ====
/- The kernel's body obligation, with the output block named or not. -/
module

public import proofs.«01_k».proof.Proof.KernelIdeal.Point

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR sig nD τ) ℕ

variable (m : (ℓ : Loc nD τ sig) → Buf (Elt F) ℓ) (I : ScratchInv F) (O : Dev nD → Fin cfg0.N → S64x8192.Idx → Elt F .f32)

/-- Which windows' contents a run leaves unnamed: the output's, if `b`. -/
def fgt0 (b : Bool) : Fin 20 → Bool := fun | 0 => false | 1 => false | 2 => false | 3 => false | 4 => false | 5 => false | 6 => false | 7 => false | 8 => false | 9 => false | 10 => false | 11 => false | 12 => false | 13 => false | 14 => false | 15 => false | 16 => false | 17 => false | 18 => false | 19 => b | ⟨_ + 20, h⟩ => absurd h (Nat.not_lt.2 (Nat.le_add_left _ _))

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable {m I O}

/-- Twenty-one conjuncts kept, the last one weakened. -/
theorem keep_rest {P0 P1 P2 P3 P4 P5 P6 P7 P8 P9 P10 P11 P12 P13 P14 P15 P16 P17 P18 P19 P20 X Y : sProp 𝕄} (h : X ⊢ Y) :
    iprop(P0 ∗ P1 ∗ P2 ∗ P3 ∗ P4 ∗ P5 ∗ P6 ∗ P7 ∗ P8 ∗ P9 ∗ P10 ∗ P11 ∗ P12 ∗ P13 ∗ P14 ∗ P15 ∗ P16 ∗ P17 ∗ P18 ∗ P19 ∗ P20 ∗ X) ⊢ iprop(P0 ∗ P1 ∗ P2 ∗ P3 ∗ P4 ∗ P5 ∗ P6 ∗ P7 ∗ P8 ∗ P9 ∗ P10 ∗ P11 ∗ P12 ∗ P13 ∗ P14 ∗ P15 ∗ P16 ∗ P17 ∗ P18 ∗ P19 ∗ P20 ∗ Y) :=
  sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl h))))))))))))))))))))

/-- What a point of the second pass leaves in the output's buffer, for some scratch contents with the property. -/
abbrev outLeft (c : Dev nD) (t : Fin cfg0.N) : sProp 𝕄 := iprop(∃ H, ∃ IW, ∃ SC, ∃ M, ∃ S, ∃ h5, ⌜I t.val H IW SC M S⌝ ∗ owns (c : Thread nD τ) (st0_19 t) fullShare (k0_pay14 M S (View.ld SC (Rect.unit (s := S4x64x8192) (k0_off4 (grid0.coords t)) S1x64x8192.size (k0_off4_inb (grid0.coords t) h5)))))

/-- The output buffer a point leaves holds something. -/
theorem out_some (c : Dev nD) (t : Fin cfg0.N) : (outLeft (I := I) c t : sProp 𝕄) ⊢ iprop(∃ X, owns (c : Thread nD τ) (st0_19 t) fullShare X) := by
  iintro ⟨%H, %IW, %SC, %M, %S, %h5, -, H19⟩
  iexists _; iexact H19

/-- The output buffer a point finds may hold anything. -/
theorem out_found (c : Dev nD) (t : Fin cfg0.N) : iprop(∃ d, owns (c : Thread nD τ) (st0_19 t) fullShare ((datOf m I O c).before 19 t d))
    ⊢ (iprop(∃ X, owns (c : Thread nD τ) (st0_19 t) fullShare X) : sProp 𝕄) := by
  iintro ⟨%d, H19⟩
  iexists _; iexact H19

set_option maxHeartbeats 3200000 in
/-- The body obligation with the output unnamed. -/
theorem obligation_unnamed (hF : FirstOK m I) (hT : TileOK m I) (hS : SecondOK I) (c : Dev nD) :
    BodyObligationLoose (datOf m I O c) (defs₀ (F := F)) 𝒱₀ () Set.univ (fgt0 true) := fun t => by
  rw [bigSep_W0, bigSep_W0, defs₀_row]
  by_cases ht : t.val = 0
  · exact triple_restated (point_first (O := O) c t hF ht (iprop(∃ X, owns (c : Thread nD τ) (st0_19 t) fullShare X))) rfl .rfl fun _ => .rfl
  by_cases ht4 : t.val < 4
  · exact triple_restated (point_tile (O := O) c t hT ht ht4 (iprop(∃ X, owns (c : Thread nD τ) (st0_19 t) fullShare X))) rfl .rfl fun _ => .rfl
  exact triple_restated (point_second (m := m) (O := O) c t hS ht4) rfl .rfl fun _ => (keep_rest (out_some (I := I) c t))

/-- The first four points leave the output buffer alone. -/
theorem out_idle (t : Fin cfg0.N) (ht : t.val < 4) : cfg0.idle 19 (grid0.coords t) = true := by revert t; decide +kernel
/-- The last four write it. -/
theorem out_live (t : Fin cfg0.N) (ht : ¬ t.val < 4) : cfg0.idle 19 (grid0.coords t) = false := by revert t; decide +kernel

/-- What the obligation with the output named asks of the output's buffer after a point that stores nothing into it. -/
theorem out_before (c : Dev nD) (t : Fin cfg0.N) (ht : t.val < 4) :
    iprop(∃ d, owns (c : Thread nD τ) (st0_19 t) fullShare ((datOf m I O c).before 19 t d)) ⊢
      (match cfg0.idle 19 (cfg0.grid.coords t) with
        | true => match (cfg0.win 19).flush t with
          | false => iprop(∃ d, owns (c : Thread nD τ) (st0_19 t) fullShare ((datOf m I O c).before 19 t d))
          | true => match cfg0.loose 19 with
            | true => iprop(∃ d, owns (c : Thread nD τ) (st0_19 t) fullShare ((cfg0.win 19).fill (cfg0.grid.coords t) d ((cfg0.win 19).cut (cfg0.grid.coords t) ((datOf m I O c).after 19 t))))
            | false => owns (c : Thread nD τ) (st0_19 t) fullShare ((datOf m I O c).after 19 t)
        | false => match cfg0.loose 19 with
          | true => iprop(∃ d, owns (c : Thread nD τ) (st0_19 t) fullShare ((cfg0.win 19).fill (cfg0.grid.coords t) d ((cfg0.win 19).cut (cfg0.grid.coords t) ((datOf m I O c).after 19 t))))
          | false => owns (c : Thread nD τ) (st0_19 t) fullShare ((datOf m I O c).after 19 t) : sProp 𝕄) := by
  rw [show cfg0.idle 19 (cfg0.grid.coords t) = true from out_idle t ht,
    show (cfg0.win 19).flush t = false from Bool.eq_false_iff.mpr fun h => (flush_out t).mp h ht]

/-- And after a point that stores its block. -/
theorem out_named (c : Dev nD) (t : Fin cfg0.N) (ht : ¬ t.val < 4) (hO : OutOK I O) :
    (outLeft (I := I) c t : sProp 𝕄) ⊢
      (match cfg0.idle 19 (cfg0.grid.coords t) with
        | true => match (cfg0.win 19).flush t with
          | false => iprop(∃ d, owns (c : Thread nD τ) (st0_19 t) fullShare ((datOf m I O c).before 19 t d))
          | true => match cfg0.loose 19 with
            | true => iprop(∃ d, owns (c : Thread nD τ) (st0_19 t) fullShare ((cfg0.win 19).fill (cfg0.grid.coords t) d ((cfg0.win 19).cut (cfg0.grid.coords t) ((datOf m I O c).after 19 t))))
            | false => owns (c : Thread nD τ) (st0_19 t) fullShare ((datOf m I O c).after 19 t)
        | false => match cfg0.loose 19 with
          | true => iprop(∃ d, owns (c : Thread nD τ) (st0_19 t) fullShare ((cfg0.win 19).fill (cfg0.grid.coords t) d ((cfg0.win 19).cut (cfg0.grid.coords t) ((datOf m I O c).after 19 t))))
          | false => owns (c : Thread nD τ) (st0_19 t) fullShare ((datOf m I O c).after 19 t) : sProp 𝕄) := by
  rw [show cfg0.idle 19 (cfg0.grid.coords t) = false from out_live t ht, show cfg0.loose 19 = true from rfl]
  iintro ⟨%H, %IW, %SC, %M, %S, %h5, %hI, H19⟩
  iexists (k0_pay14 M S (View.ld SC (Rect.unit (s := S4x64x8192) (k0_off4 (grid0.coords t)) S1x64x8192.size (k0_off4_inb (grid0.coords t) h5))))
  rw [show (datOf m I O c).after 19 t = O c t from datOf_after_19 m I O c t]
  have e := win0_19.fill_congr_cut (grid0.coords t) (hO c t ht h5 H IW SC M S hI)
  rw [show (cfg0.win 19).fill (cfg0.grid.coords t) (k0_pay14 M S (View.ld SC (Rect.unit (s := S4x64x8192) (k0_off4 (grid0.coords t)) S1x64x8192.size (k0_off4_inb (grid0.coords t) h5))))
    ((cfg0.win 19).cut (cfg0.grid.coords t) (O c t)) = _ from e]
  iexact H19

set_option maxHeartbeats 3200000 in
/-- The body obligation with the output named. -/
theorem obligation_named (hF : FirstOK m I) (hT : TileOK m I) (hS : SecondOK I) (hO : OutOK I O) (c : Dev nD) :
    BodyObligationLoose (datOf m I O c) (defs₀ (F := F)) 𝒱₀ () Set.univ := fun t => by
  rw [bigSep_W0, bigSep_W0, defs₀_row]
  by_cases ht4 : t.val < 4
  · by_cases ht : t.val = 0
    · exact triple_restated (point_first (O := O) c t hF ht (iprop(∃ d, owns (c : Thread nD τ) (st0_19 t) fullShare ((datOf m I O c).before 19 t d)))) rfl .rfl
        fun _ => (keep_rest (out_before (m := m) (I := I) (O := O) c t ht4))
    · exact triple_restated (point_tile (O := O) c t hT ht ht4 (iprop(∃ d, owns (c : Thread nD τ) (st0_19 t) fullShare ((datOf m I O c).before 19 t d)))) rfl .rfl
        fun _ => (keep_rest (out_before (m := m) (I := I) (O := O) c t ht4))
  exact triple_restated (point_second (m := m) (O := O) c t hS ht4) rfl (keep_rest (out_found (m := m) (I := I) (O := O) c t))
    fun _ => (keep_rest (out_named (m := m) (I := I) (O := O) c t ht4 hO))

end Cert.KernelIdeal.Hand

end
-- ==== Proof.KernelIdeal.FrameRun.lean ====
/- The whole run of the kernel with the output unnamed: it terminates and leaves every argument as it was. -/
module

public import proofs.«01_k».proof.Proof.KernelIdeal.Obligation

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Scratch contents at anything are the scoped buffers the region leaves to the body, and the generator register. -/
theorem scratch_of_region (c : Dev nD) : (Pipeline.ΦA spec0 c : sProp 𝕄) ⊢ iprop(∃ H, ∃ IW, ∃ SC, ∃ M, ∃ S,
    owns (c : Thread nD τ) (Memref.whole cc0_scratch0) fullShare H ∗ owns (c : Thread nD τ) (Memref.whole cc0_scratch1) fullShare IW
    ∗ owns (c : Thread nD τ) (Memref.whole cc0_scratch2) fullShare SC ∗ owns (c : Thread nD τ) (Memref.whole cc0_scratch3) fullShare M
    ∗ owns (c : Thread nD τ) (Memref.whole cc0_scratch4) fullShare S ∗ ∃ r, prngReg c r) := by
  unfold Pipeline.ΦA
  rw [scopedRest0_eq]
  simp only [owns_whole]
  iintro ⟨⟨⟨%f0, H0⟩, ⟨%f1, H1⟩, ⟨%f2, H2⟩, ⟨%f3, H3⟩, ⟨%f4, H4⟩⟩, Hr⟩
  iexists f0, f1, f2, f3, f4
  isplitl [H0]; · iexact H0
  isplitl [H1]; · iexact H1
  isplitl [H2]; · iexact H2
  isplitl [H3]; · iexact H3
  isplitl [H4]; · iexact H4
  iexact Hr

/-- The scratch buffers before the run, whatever they hold. -/
theorem scratch_in (I : ScratchInv F) (h : ∀ H IW SC M S, I 0 H IW SC M S) (c : Dev nD) : (Pipeline.ΦA spec0 c : sProp 𝕄) ⊢ scratchAt I c 0 := by
  refine (scratch_of_region c).trans ?_
  unfold scratchAt
  iintro ⟨%H, %IW, %SC, %M, %S, R⟩
  iexists H, IW, SC, M, S
  isplitr; · ipureintro; exact h H IW SC M S
  iexact R

/-- The scratch buffers after it. -/
theorem scratch_out (I : ScratchInv F) (c : Dev nD) (n : ℕ) : (scratchAt I c n : sProp 𝕄) ⊢ Pipeline.ΦA spec0 c := by
  unfold scratchAt Pipeline.ΦA
  rw [scopedRest0_eq]
  simp only [owns_whole]
  iintro ⟨%f0, %f1, %f2, %f3, %f4, -, H0, H1, H2, H3, H4, Hr⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hr

/-- The property of scratch contents that says nothing. -/
def anyInv : ScratchInv F := fun _ _ _ _ _ _ => True

/-- The buffers the operations after the region write. -/
def tailWrites : Finset (Ref sig .tc) := {main_c_0, main_v26}

/-- The operations after the launch write the listed buffers only. -/
theorem tail_writes : ∀ ops ∈ ([hostOps1] : List (List (HloOp τ sig (Elt F)))), ∀ op ∈ ops, ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl <;> simp only [StableHlo.nullary_writes, StableHlo.unary_writes, Finset.mem_singleton] at hb <;>
    rw [Proc.devRef_injective _ hb] <;> decide

set_option backward.isDefEq.respectTransparency.types false in
/-- Every execution of the program terminates, with every argument as at launch and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) ∧ r.2.sem = fun _ => 0) :=
  Pipeline.θ_run_frame_around_T_track_forget cfgs (fun _ => datOf m anyInv (fun _ _ _ => Scalar.ofBits .f32 0#32)) 0 launch0 defs₀ 𝒱₀ (fgt0 true) tailWrites m ρ main
    (hbody := fun c => obligation_unnamed (fun _ _ _ _ _ _ _ _ => trivial) (fun _ _ _ _ _ _ _ _ _ _ _ _ => trivial) (fun _ _ _ _ _ _ _ _ => trivial) c)
    (hshare := fun c => (datOf m anyInv _ c).share_full fun _ => rfl) (howed := fun _ _ => rfl) (V₀ := V0 m) (opss := [hostOps1])
    (hsub := sfx_sub) (hfresh := sfx_fresh) (hkeep := sfx_keeps) (hT := tail_writes) (hmain := hmain m 𝒱₀) (hA := fun c w => datOf_A m _ _ c w)
    (hin := fun c => scratch_in anyInv (fun _ _ _ _ _ => trivial) c) (hout := fun c => scratch_out anyInv c _)
    (Q' := _) (hQ' := fun r ⟨h, hs⟩ => ⟨fun c => ⟨((h c).2 main_arg0 (by decide)).trans (V_main_arg0 m c),
      ((h c).2 main_arg1 (by decide)).trans (V_main_arg1 m c),
      (RDat.FramePostR.arr_in h c 4 rfl).trans (V_main_arg2 m c),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      (RDat.FramePostR.arr_in h c 11 rfl).trans (V_main_arg12 m c),
      ((h c).2 main_arg13 (by decide)).trans (V_main_arg13 m c),
      ((h c).2 main_arg14 (by decide)).trans (V_main_arg14 m c),
      ((h c).2 main_arg15 (by decide)).trans (V_main_arg15 m c),
      ((h c).2 main_arg16 (by decide)).trans (V_main_arg16 m c),
      ((h c).2 main_arg17 (by decide)).trans (V_main_arg17 m c),
      ((h c).2 main_arg18 (by decide)).trans (V_main_arg18 m c),
      ((h c).2 main_arg19 (by decide)).trans (V_main_arg19 m c),
      (RDat.FramePostR.arr_in h c 15 rfl).trans (V_main_arg20 m c),
      ((h c).2 main_arg21 (by decide)).trans (V_main_arg21 m c),
      (RDat.FramePostR.arr_in h c 17 rfl).trans (V_main_arg22 m c),
      ((h c).2 main_arg23 (by decide)).trans (V_main_arg23 m c)⟩, hs⟩)

end Cert.KernelIdeal.Hand

end
-- ==== Proof.ReferenceIdeal.FrameRun.lean ====
/- The reference's run with its results unnamed: it terminates and leaves every argument as it was. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Hand

open Cert.ReferenceIdeal.Gen
open Idealize.ShloMosaic Idealize.ShloMosaic.TcCoe Idealize.SL.Sem

/-- Every run of the reference ends with its arguments as they were and no semaphore left raised. -/
theorem frame : Cert.quiescent_ReferenceIdeal := fun m ρ _ =>
  (θ_run _ _ _).mono (fun r h => ⟨fun c => (h c).2.2, sem_eq_zero_of_no_sems (by decide) r.2⟩)
    (Cert.ReferenceIdeal.Value.run (F := Ideal) m ρ)

end Cert.ReferenceIdeal.Hand

end
-- ==== Proof.Value.Recurrent.lean ====
/- The two recurrent layers as plain functions of rows. -/
module

public import Idealize.ShloMosaic.Lib.Pointwise

@[expose] public section

noncomputable section

namespace Cert.Value

open Idealize.ShloMosaic

/-- A row of `n` numbers. -/
abbrev Row (n : ℕ) := Fin n → EReal

/-- A row times a matrix. -/
def rowDot {n k : ℕ} (x : Row n) (W : Fin n → Row k) : Row k := fun j => ∑ i, x i * W i j

/-- One recurrent cell: `az` and `ar` are the gates' arguments, `at'` the candidate's before the hidden state's part, `h`
    the hidden state. -/
def cell (az ar at' : Row 256) (U : Fin 256 → Row 256) (bu h : Row 256) : Row 256 := fun j =>
  Ideal.logistic (az j) * Ideal.tanh (at' j + rowDot (fun k => Ideal.logistic (ar k) * h k) U j + bu j)
    + (1 - Ideal.logistic (az j)) * h j

/-- The weights of the two layers. -/
structure Weights where
  Wz1 : Fin 512 → Row 256
  Uz1 : Fin 256 → Row 256
  Wr1 : Fin 512 → Row 256
  Ur1 : Fin 256 → Row 256
  W1 : Fin 512 → Row 256
  bW1 : Row 256
  U1 : Fin 256 → Row 256
  bU1 : Row 256
  Wz2 : Fin 256 → Row 256
  Uz2 : Fin 256 → Row 256
  Wr2 : Fin 256 → Row 256
  Ur2 : Fin 256 → Row 256
  W2 : Fin 256 → Row 256
  bW2 : Row 256
  U2 : Fin 256 → Row 256
  bU2 : Row 256

/-- The first layer's step. -/
def layer1 (w : Weights) (x : Row 512) (h : Row 256) : Row 256 :=
  cell (fun j => rowDot x w.Wz1 j + rowDot h w.Uz1 j) (fun j => rowDot x w.Wr1 j + rowDot h w.Ur1 j)
    (fun j => rowDot x w.W1 j + w.bW1 j) w.U1 w.bU1 h

/-- The second layer's step. -/
def layer2 (w : Weights) (x : Row 256) (h : Row 256) : Row 256 :=
  cell (fun j => rowDot x w.Wz2 j + rowDot h w.Uz2 j) (fun j => rowDot x w.Wr2 j + rowDot h w.Ur2 j)
    (fun j => rowDot x w.W2 j + w.bW2 j) w.U2 w.bU2 h

/-- The first layer's hidden state after `n` of the rows `x`. -/
def hid1 (w : Weights) (x : ℕ → Row 512) : ℕ → Row 256
  | 0 => fun _ => 0
  | n + 1 => layer1 w (x n) (hid1 w x n)

/-- The second layer's hidden state after `n` of the rows `x`. -/
def hid2 (w : Weights) (x : ℕ → Row 512) : ℕ → Row 256
  | 0 => fun _ => 0
  | n + 1 => layer2 w (hid1 w x (n + 1)) (hid2 w x n)

end Cert.Value

end
-- ==== Proof.Value.Graph.lean ====
module
public import proofs.«01_k».proof.Proof.Value.Recurrent
@[expose] public section
set_option maxRecDepth 16384

/-! # Graph attention of each sample's first node

What the attention layer computes, written once over the extended reals: a table of node vectors, for each sample the
table's row of each of its nodes, and for each sample its edges — the source, and whether the edge ends in node 0. -/

noncomputable section

namespace Cert.Value
open Idealize.ShloMosaic

/-- The graphs of the 64 samples: a sample's node's row of the table, an edge's source node, and whether the edge ends
in node 0. The last edge of each sample is node 0's own loop. -/
structure Graph where
  node : Fin 64 → Fin 32 → Fin 32
  src : Fin 64 → Fin 65 → Fin 32
  into : Fin 64 → Fin 65 → Bool
  X : Fin 32 → Row 256
  W : Fin 256 → Row 256
  aS : Fin 8 → Row 32
  aD : Fin 8 → Row 32
  b : Row 256

namespace Graph
variable (g : Graph)

/-- The word of 0.2, the slope below zero. -/
def slope : EReal := Ideal.ofBits .f32 0x3E4CCCCD#32

/-- The word of the guard added to the weights' sum. -/
def guard : EReal := Ideal.ofBits .f32 0x24E69595#32

/-- The head of a column: 32 columns each. -/
def head (k : Fin 256) : Fin 8 := ⟨k.val / 32, by omega⟩

/-- Column `c` of head `h`. -/
def col (h : Fin 8) (c : Fin 32) : Fin 256 := ⟨h.val * 32 + c.val, by omega⟩

/-- A table row, projected. -/
def xw (i : Fin 32) (k : Fin 256) : EReal := ∑ d, g.X i d * g.W d k

/-- A table row's score against one attention vector, per head. -/
def att (a : Fin 8 → Row 32) (i : Fin 32) (h : Fin 8) : EReal := ∑ c, g.xw i (col h c) * a h c

/-- An edge's score: its source's and node 0's, summed. -/
def raw (r : Fin 64) (e : Fin 65) (h : Fin 8) : EReal := g.att g.aS (g.node r (g.src r e)) h + g.att g.aD (g.node r 0) h

/-- The leaky rectifier of an edge's score. -/
def leaky (r : Fin 64) (e : Fin 65) (h : Fin 8) : EReal := max (g.raw r e h) (slope * g.raw r e h)

/-- The largest score of an edge into node 0, over all the samples. -/
def top (h : Fin 8) : EReal := Finset.univ.sup fun p : Fin 64 × Fin 65 => if g.into p.1 p.2 then g.leaky p.1 p.2 h else ⊥

/-- An edge's weight: zero off node 0. -/
def wt (r : Fin 64) (e : Fin 65) (h : Fin 8) : EReal := if g.into r e then Ideal.exp (g.leaky r e h - g.top h) else 0

/-- The weights' sum over a sample's edges. -/
def den (r : Fin 64) (h : Fin 8) : EReal := ∑ e, g.wt r e h

/-- An edge's share. -/
def alpha (r : Fin 64) (e : Fin 65) (h : Fin 8) : EReal := Ideal.div (g.wt r e h) (g.den r h + guard)

/-- The attention layer's output at a sample's node 0. -/
def gat (r : Fin 64) (k : Fin 256) : EReal := (∑ e, g.xw (g.node r (g.src r e)) k * g.alpha r e (head k)) + g.b k

/-- The recurrent layers' input `r`: node 0's table row, then the attention layer's output. -/
def input (r : Fin 64) : Row 512 :=
  fun k => if h : k.val < 256 then g.X (g.node r 0) ⟨k.val, h⟩ else g.gat r ⟨k.val - 256, by omega⟩

/-- An exponential is at least zero. -/
theorem exp_nonneg (x : EReal) : 0 ≤ Ideal.exp x := by
  induction x using EReal.rec with
  | bot => exact le_refl (0 : EReal)
  | top => exact (le_top : (0 : EReal) ≤ ⊤)
  | coe x => exact EReal.coe_nonneg.mpr (Real.exp_pos x).le

/-- Every weight is at least zero. -/
theorem wt_nonneg (r : Fin 64) (e : Fin 65) (h : Fin 8) : 0 ≤ g.wt r e h := by
  unfold wt
  split
  · exact exp_nonneg _
  · exact le_rfl

end Graph
end Cert.Value
end
-- ==== Proof.Value.Softmax.lean ====
/- The running maximum and sum of a softmax over 30000 columns, taken 8192 at a time. -/
module

public import Idealize.ShloMosaic.Lib.Pointwise

@[expose] public section

set_option maxRecDepth 16384

noncomputable section

namespace Cert.Value

open Idealize.ShloMosaic

/-- The scores are finite. -/
def Finite {ι : Type} (L : ι → EReal) : Prop := ∀ i, ∃ r : ℝ, L i = (r : EReal)

/-- The greatest score over a set of columns. -/
def mx (L : Fin 30000 → EReal) (A : Finset (Fin 30000)) : EReal := A.sup L

/-- The sum over a set of columns of the exponentials, shifted by the set's greatest score. -/
def sm (L : Fin 30000 → EReal) (A : Finset (Fin 30000)) : EReal := ∑ v ∈ A, Ideal.exp (L v - mx L A)

variable {L : Fin 30000 → EReal}

/-- The greatest score over a nonempty set is finite. -/
theorem mx_real (hL : Finite L) {A : Finset (Fin 30000)} (hA : A.Nonempty) : ∃ a : ℝ, mx L A = (a : EReal) := by
  obtain ⟨v, -, hv⟩ := Finset.exists_mem_eq_sup A hA L
  obtain ⟨r, hr⟩ := hL v
  exact ⟨r, (show mx L A = L v from hv).trans hr⟩

/-- A sum of finite numbers is the sum of the real numbers. -/
theorem coe_sum {ι : Type} (A : Finset ι) (f : ι → ℝ) : ∑ v ∈ A, (f v : EReal) = ((∑ v ∈ A, f v : ℝ) : EReal) := by
  classical
  induction A using Finset.induction_on with
  | empty => simp
  | insert a s ha ih => rw [Finset.sum_insert ha, Finset.sum_insert ha, ih, EReal.coe_add]

/-- A set's sum as a real sum. -/
theorem sm_real {f : Fin 30000 → ℝ} (hf : ∀ v, L v = (f v : EReal)) {A : Finset (Fin 30000)} {a : ℝ} (ha : mx L A = (a : EReal)) :
    sm L A = ((∑ v ∈ A, Real.exp (f v - a) : ℝ) : EReal) := by
  unfold sm
  rw [← coe_sum]
  refine Finset.sum_congr rfl fun v _ => ?_
  rw [ha, hf, ← EReal.coe_sub]
  rfl

/-- Two disjoint sets' sums, each rescaled to the greater maximum, add up to the union's. -/
theorem sm_union (hL : Finite L) {A B : Finset (Fin 30000)} (hA : A.Nonempty) (hB : B.Nonempty) (hd : Disjoint A B) :
    mx L (A ∪ B) = max (mx L A) (mx L B)
      ∧ sm L (A ∪ B) = sm L A * Ideal.exp (mx L A - mx L (A ∪ B)) + sm L B * Ideal.exp (mx L B - mx L (A ∪ B)) := by
  refine ⟨Finset.sup_union, ?_⟩
  choose f hf using hL
  obtain ⟨a, ha⟩ := mx_real (fun v => ⟨_, hf v⟩) hA
  obtain ⟨b, hb⟩ := mx_real (fun v => ⟨_, hf v⟩) hB
  obtain ⟨c, hc⟩ := mx_real (fun v => ⟨_, hf v⟩) (hA.mono Finset.subset_union_left : (A ∪ B).Nonempty)
  rw [sm_real hf ha, sm_real hf hb, sm_real hf hc, ha, hb, hc, ← EReal.coe_sub, ← EReal.coe_sub]
  show _ = (_ : EReal) * ((Real.exp (a - c) : ℝ) : EReal) + _ * ((Real.exp (b - c) : ℝ) : EReal)
  rw [← EReal.coe_mul, ← EReal.coe_mul, ← EReal.coe_add, Finset.sum_union hd, Finset.sum_mul, Finset.sum_mul]
  congr 2
  · refine Finset.sum_congr rfl fun v _ => ?_
    rw [← Real.exp_add]; congr 1; ring
  · refine Finset.sum_congr rfl fun v _ => ?_
    rw [← Real.exp_add]; congr 1; ring

/-- Subtracting the maximum and then the sum's logarithm is subtracting both at once. -/
theorem shift_log (hL : Finite L) (v : Fin 30000) :
    L v - (mx L Finset.univ + Ideal.log (sm L Finset.univ)) = L v - mx L Finset.univ - Ideal.log (sm L Finset.univ) := by
  choose f hf using hL
  obtain ⟨a, ha⟩ := mx_real (fun v => ⟨_, hf v⟩) (A := Finset.univ) ⟨v, Finset.mem_univ v⟩
  rw [sm_real hf ha, ha, hf]
  have hs : 0 < ∑ v, Real.exp (f v - a) := Finset.sum_pos (fun _ _ => Real.exp_pos _) ⟨v, Finset.mem_univ v⟩
  have hl : Ideal.log ((∑ v, Real.exp (f v - a) : ℝ) : EReal) = ((Real.log (∑ v, Real.exp (f v - a)) : ℝ) : EReal) := by
    show (if _ ≤ 0 then ⊥ else _) = _
    rw [if_neg (not_le.mpr hs)]
  rw [hl]
  generalize Real.log (∑ v, Real.exp (f v - a)) = l
  rw [← EReal.coe_add, ← EReal.coe_sub, ← EReal.coe_sub, ← EReal.coe_sub, sub_sub]

/-- The columns of tile `j`. -/
def tile (j : ℕ) : Finset (Fin 30000) := Finset.univ.filter fun v => v.val / 8192 = j

/-- The columns of the tiles before `n`. -/
def cols (n : ℕ) : Finset (Fin 30000) := Finset.univ.filter fun v => v.val < 8192 * n

/-- One tile more. -/
theorem cols_succ (n : ℕ) : cols (n + 1) = cols n ∪ tile n := by
  ext v; simp only [cols, tile, Finset.mem_union, Finset.mem_filter, Finset.mem_univ, true_and]; omega

/-- The first tile. -/
theorem cols_one : cols 1 = tile 0 := by
  ext v; simp only [cols, tile, Finset.mem_filter, Finset.mem_univ, true_and]; omega

/-- Four tiles hold every column. -/
theorem cols_four : cols 4 = Finset.univ := by
  ext v; simp only [cols, Finset.mem_filter, Finset.mem_univ, true_and, iff_true]; omega

/-- A tile is apart from those before it. -/
theorem cols_tile (n : ℕ) : Disjoint (cols n) (tile n) := by
  rw [Finset.disjoint_left]; intro v h1 h2
  simp only [cols, tile, Finset.mem_filter, Finset.mem_univ, true_and] at h1 h2; omega

/-- Each of the four tiles holds a column. -/
theorem tile_nonempty {j : ℕ} (hj : j < 4) : (tile j).Nonempty :=
  ⟨⟨8192 * j, by omega⟩, by simp only [tile, Finset.mem_filter, Finset.mem_univ, true_and]; omega⟩

/-- So do they together. -/
theorem cols_nonempty {n : ℕ} (hn : 0 < n) : (cols n).Nonempty :=
  ⟨⟨0, by omega⟩, by simp only [cols, Finset.mem_filter, Finset.mem_univ, true_and]; omega⟩

/-- A tile's scores, with `⊥` past the last column. -/
def masked (L : Fin 30000 → EReal) (j : ℕ) (c : Fin 8192) : EReal :=
  if h : 8192 * j + c.val < 30000 then L ⟨8192 * j + c.val, h⟩ else ⊥

/-- A tile's greatest masked score. -/
theorem masked_max (j : ℕ) : Finset.univ.fold max ⊥ (masked L j) = mx L (tile j) := by
  show Finset.univ.sup (masked L j) = (tile j).sup L
  refine le_antisymm (Finset.sup_le fun c _ => ?_) (Finset.sup_le fun v hv => ?_)
  · unfold masked
    split
    · rename_i h
      refine Finset.le_sup (f := L) ?_
      simp only [tile, Finset.mem_filter, Finset.mem_univ, true_and]; omega
    · exact bot_le
  · simp only [tile, Finset.mem_filter, Finset.mem_univ, true_and] at hv
    have hc : v.val % 8192 < 8192 := Nat.mod_lt _ (by omega)
    refine le_trans (le_of_eq ?_) (Finset.le_sup (f := masked L j) (Finset.mem_univ ⟨v.val % 8192, hc⟩))
    unfold masked
    have e : 8192 * j + v.val % 8192 = v.val := by omega
    rw [dif_pos (by show 8192 * j + v.val % 8192 < 30000; omega)]
    exact congrArg L (Fin.ext e.symm)

/-- A tile's sum over the masked scores. -/
theorem masked_sum (hL : Finite L) {j : ℕ} (hj : j < 4) :
    ∑ c, Ideal.exp (masked L j c - mx L (tile j)) = sm L (tile j) := by
  obtain ⟨a, ha⟩ := mx_real hL (tile_nonempty hj)
  unfold sm
  rw [ha]
  symm
  refine Finset.sum_of_injOn (fun v : Fin 30000 => (⟨v.val % 8192, Nat.mod_lt _ (by omega)⟩ : Fin 8192)) ?_ (fun v _ => Finset.mem_coe.mpr (Finset.mem_univ _)) ?_ ?_
  · intro v hv w hw h
    have h := congrArg Fin.val h
    simp only [tile, Finset.coe_filter, Finset.mem_univ, true_and, Set.mem_setOf_eq] at hv hw h
    exact Fin.ext (by omega)
  · intro c _ hc
    unfold masked
    rw [dif_neg ?_]
    · rw [EReal.bot_sub]; rfl
    · intro h
      refine hc ⟨⟨8192 * j + c.val, h⟩, ?_, Fin.ext ?_⟩
      · simp only [tile, Finset.coe_filter, Finset.mem_univ, true_and, Set.mem_setOf_eq]; omega
      · show (8192 * j + c.val) % 8192 = c.val; omega
  · intro v hv
    simp only [tile, Finset.mem_filter, Finset.mem_univ, true_and] at hv
    unfold masked
    have e : 8192 * j + v.val % 8192 = v.val := by omega
    rw [dif_pos (by show 8192 * j + v.val % 8192 < 30000; omega)]
    exact congrArg (fun u => Ideal.exp (L u - a)) (Fin.ext e.symm)

end Cert.Value

end
-- ==== Proof.Value.Head.lean ====
/- The kernel's logits and its running softmax, read at a row and a column. -/
module

public import proofs.«01_k».proof.Proof.Value.Recurrent
public import proofs.«01_k».proof.Proof.Value.Softmax
public import proofs.«01_k».proof.Proof.KernelIdeal.LoopRun

@[expose] public section

set_option maxRecDepth 16384

noncomputable section

namespace Cert.Value

open Idealize.ShloMosaic
open Cert.KernelIdeal Cert.KernelIdeal.Gen Cert.KernelIdeal.Hand

variable (i : grid0.Coords) (H : FVec Ideal S64x256 .f32) (W : FVec Ideal S256x8192 .f32) (b : FVec Ideal S1x8192 .f32)
  (M S : FVec Ideal S64x1 .f32) (T : FVec Ideal S1x64x8192 .f32)

/-- A logit is a row's product with a column of the weights, and the column's bias. -/
theorem pay4_at (r : Fin 64) (v : Fin 8192) :
    k0_pay4 (F := Ideal) H W b (ix2 r v) = rowDot (fun k => H (ix2 r k)) (fun k v => W (ix2 k v)) v + b (ix2 0 v) := by
  pointwise [k0_pay4, rowDot]

/-- The slab kept of a tile holds its logits. -/
theorem pay5_at (r : Fin 64) (v : Fin 8192) : k0_pay5 H W b (ix3 0 r v) = k0_pay4 (F := Ideal) H W b (ix2 r v) := by
  pointwise [k0_pay5]

/-- The constant that stands in for a masked logit. -/
theorem mask_bot : (Named.named κ "mask" 0xF149F2CA#32 : Ideal .f32) = ⊥ := rfl

/-- The word of minus infinity. -/
theorem word_bot : Ideal.ofBits .f32 0xFF800000#32 = ⊥ := by
  show Ideal.ieee 8 23 0xFF800000#32 = ⊥
  unfold Ideal.ieee
  simp

/-- The masked logits are the logits inside the array, `⊥` past it. -/
theorem pay6_at (r : Fin 64) (v : Fin 8192) :
    k0_pay6 (F := Ideal) i H W b (ix2 r v) = if 8192 * (i 1).val + v.val < 30000 then k0_pay4 (F := Ideal) H W b (ix2 r v) else ⊥ := by
  pointwise [k0_pay6]
  have hj : (i 1).val < 4 := (i 1).isLt
  have hc := WordCmp.cmpi_slt_mul_add_ofNat (w := 32) (i 1).val 8192 v.val 30000 (by omega) (by omega)
  rw [mask_bot]
  refine (congrArg (fun bit => Scalar.select bit (k0_pay4 (F := Ideal) H W b (ix2 r v)) ⊥) hc).trans ?_
  rw [Nat.mul_comm]
  split <;> rfl

/-- A tile's maximum. -/
theorem pay7_at (r : Fin 64) : k0_pay7 (F := Ideal) i H W b (ix2 r 0) = Finset.univ.fold max ⊥ (fun v => k0_pay6 (F := Ideal) i H W b (ix2 r v)) := by
  pointwise [k0_pay7]
  rw [word_bot]

/-- A tile's sum. -/
theorem pay8_at (r : Fin 64) :
    k0_pay8 (F := Ideal) i H W b (ix2 r 0) = ∑ v, Ideal.exp (k0_pay6 (F := Ideal) i H W b (ix2 r v) - k0_pay7 (F := Ideal) i H W b (ix2 r 0)) := by
  pointwise [k0_pay8]

/-- A first tile's maximum is kept. -/
theorem pay9_at (r : Fin 64) : k0_pay9 i H W b (ix2 r 0) = k0_pay7 (F := Ideal) i H W b (ix2 r 0) := by
  pointwise [k0_pay9]

/-- And its sum. -/
theorem pay10_at (r : Fin 64) : k0_pay10 i H W b (ix2 r 0) = k0_pay8 (F := Ideal) i H W b (ix2 r 0) := by
  pointwise [k0_pay10]

/-- The new running maximum. -/
theorem pay13_at (r : Fin 64) : k0_pay13 i H W b M (ix2 r 0) = max (M (ix2 r 0)) (k0_pay7 (F := Ideal) i H W b (ix2 r 0)) := by
  pointwise [k0_pay13, k0_pay11]

/-- The new running sum. -/
theorem pay12_at (r : Fin 64) :
    k0_pay12 i H W b M S (ix2 r 0)
      = S (ix2 r 0) * Ideal.exp (M (ix2 r 0) - max (M (ix2 r 0)) (k0_pay7 (F := Ideal) i H W b (ix2 r 0)))
        + k0_pay8 (F := Ideal) i H W b (ix2 r 0) * Ideal.exp (k0_pay7 (F := Ideal) i H W b (ix2 r 0) - max (M (ix2 r 0)) (k0_pay7 (F := Ideal) i H W b (ix2 r 0))) := by
  pointwise [k0_pay12, k0_pay11]

/-- The output block. -/
theorem pay14_at (r : Fin 64) (v : Fin 8192) :
    k0_pay14 M S T (ix2 r v) = T (ix3 0 r v) - (M (ix2 r 0) + Ideal.log (S (ix2 r 0))) := by
  pointwise [k0_pay14]

end Cert.Value

end
-- ==== Proof.Value.Blocks.lean ====
/- The blocks of the head's weights, of its bias and of the output at a grid point. -/
module

public import proofs.«01_k».proof.Proof.KernelIdeal.Data
public import Idealize.ShloMosaic.Lib.Pointwise
public import Idealize.ShloMosaic.Lib.Pipeline.ValueKit

@[expose] public section

set_option maxRecDepth 16384

noncomputable section

namespace Cert.Value

open Idealize.ShloMosaic Idealize.ShloMosaic.TcCoe
open Cert.KernelIdeal Cert.KernelIdeal.Gen Cert.KernelIdeal.Hand

/-- The block indices of the head's windows, point by point. -/
theorem head_index : ∀ t : Fin cfg0.N, win0_17.index t = ![0, if t.val < 4 then t.val else 0]
    ∧ win0_18.index t = ![0, if t.val < 4 then t.val else 0] ∧ win0_19.index t = ![0, if t.val < 4 then 0 else t.val - 4]
    ∧ (grid0.coords t 1).val = t.val % 4 ∧ t.val < 8 :=
  (by decide +kernel : ∀ t : Fin grid0.N, _)

/-- The columns of a head block that lie inside the array. -/
theorem head_size : ∀ t : Fin cfg0.N, t.val < 4 → win0_17.xsize (grid0.coords t) 0 = 256 ∧ win0_17.xsize (grid0.coords t) 1 = min 8192 (30000 - 8192 * t.val)
    ∧ win0_18.xsize (grid0.coords t) 0 = 1 ∧ win0_18.xsize (grid0.coords t) 1 = min 8192 (30000 - 8192 * t.val) :=
  (by decide +kernel : ∀ t : Fin grid0.N, _)

/-- The columns of an output block that lie inside the array. -/
theorem out_size : ∀ t : Fin cfg0.N, ¬ t.val < 4 → win0_19.xsize (grid0.coords t) 0 = 64
    ∧ win0_19.xsize (grid0.coords t) 1 = min 8192 (30000 - 8192 * (t.val - 4)) :=
  (by decide +kernel : ∀ t : Fin grid0.N, _)

/-- The slab a point keeps or reads. -/
theorem slab_off : ∀ t : Fin cfg0.N, k0_off3 (grid0.coords t) = ![t.val % 4, 0, 0] ∧ k0_off4 (grid0.coords t) = ![t.val % 4, 0, 0] :=
  (by decide +kernel : ∀ t : Fin grid0.N, _)

variable {F : FTy → Type} [FloatOps F] [Named F]
variable (m : (ℓ : Loc nD τ sig) → Buf (Elt F) ℓ)

/-- A block of the head's weights holds the array's columns. -/
theorem weights_block (c : Dev nD) (t : Fin cfg0.N) (ht : t.val < 4) (d : S256x8192.Idx → Elt F .f32) (k : Fin 256) (v : Fin 8192)
    (h : 8192 * t.val + v.val < 30000) :
    win0_17.fill (grid0.coords t) d (iblk m c 17 t) (ix2 k v) = m ((c : Thread nD τ).loc main_arg22) (ix2 k ⟨8192 * t.val + v.val, h⟩) := by
  obtain ⟨h0, h1, -, -⟩ := head_size t ht
  have hm : win0_17.moved (grid0.coords t) (ix2 k v) = true := (win0_17.moved_iff _ _).mpr (by
    intro a
    match a with
    | ⟨0, _⟩ => exact lt_of_lt_of_eq k.isLt h0.symm
    | ⟨1, _⟩ => exact lt_of_lt_of_eq (show v.val < min 8192 (30000 - 8192 * t.val) from lt_min v.isLt (by omega)) h1.symm)
  unfold Pipeline.Window.fill
  rw [dif_pos hm]
  obtain ⟨i0, -, -, -⟩ := head_index t
  rw [if_pos ht] at i0
  blk_ext [iblk, V, i0]

/-- A block of the head's bias holds the array's columns. -/
theorem bias_block (c : Dev nD) (t : Fin cfg0.N) (ht : t.val < 4) (d : S1x8192.Idx → Elt F .f32) (v : Fin 8192)
    (h : 8192 * t.val + v.val < 30000) :
    win0_18.fill (grid0.coords t) d (iblk m c 18 t) (ix2 0 v) = V m c main_v24 (ix2 0 ⟨8192 * t.val + v.val, h⟩) := by
  obtain ⟨-, -, h0, h1⟩ := head_size t ht
  have hm : win0_18.moved (grid0.coords t) (ix2 0 v) = true := (win0_18.moved_iff _ _).mpr (by
    intro a
    match a with
    | ⟨0, _⟩ => exact lt_of_lt_of_eq (show (0 : ℕ) < 1 from Nat.one_pos) h0.symm
    | ⟨1, _⟩ => exact lt_of_lt_of_eq (show v.val < min 8192 (30000 - 8192 * t.val) from lt_min v.isLt (by omega)) h1.symm)
  unfold Pipeline.Window.fill
  rw [dif_pos hm]
  obtain ⟨-, i0, -, -⟩ := head_index t
  rw [if_pos ht] at i0
  blk_ext [iblk, i0]

/-- A slab just put reads as put, the others as before. -/
theorem slab_put (t : Fin cfg0.N) (ht : t.val < 4) (SC : S4x64x8192.Idx → Elt F .f32) (T : S1x64x8192.Idx → Elt F .f32)
    (j : Fin 4) (r : Fin 64) (v : Fin 8192) :
    VecWindow.put (s := S4x64x8192) (α := Elt F .f32) SC (k0_off3 (grid0.coords t)) S1x64x8192.size T (ix3 j r v)
      = if j.val = t.val then T (ix3 0 r v) else SC (ix3 j r v) := by
  rw [(slab_off t).1]
  unfold VecWindow.put
  have e : t.val % 4 = t.val := by omega
  rw [e]
  by_cases hj : j.val = t.val
  · rw [if_pos hj, dif_pos (by
      intro a
      match a with
      | ⟨0, _⟩ => exact ⟨le_of_eq hj.symm, by show j.val < t.val + 1; omega⟩
      | ⟨1, _⟩ => exact ⟨Nat.zero_le _, by show r.val < 0 + 64; omega⟩
      | ⟨2, _⟩ => exact ⟨Nat.zero_le _, by show v.val < 0 + 8192; omega⟩)]
    refine congrArg T (funext fun a => ?_)
    match a with
    | ⟨0, _⟩ => exact Fin.ext (by show j.val - t.val = 0; omega)
    | ⟨1, _⟩ => exact Fin.ext (by show r.val - 0 = r.val; omega)
    | ⟨2, _⟩ => exact Fin.ext (by show v.val - 0 = v.val; omega)
  · rw [if_neg hj, dif_neg]
    intro h
    have h0 := h ⟨0, by decide⟩
    have h1 : t.val ≤ j.val := h0.1
    have h2 : j.val < t.val + 1 := h0.2
    omega

/-- A slab read back. -/
theorem slab_read (t : Fin cfg0.N) (SC : S4x64x8192.Idx → Elt F .f32) (h5 : k0_cond5 (grid0.coords t) = 1#1) (r : Fin 64) (v : Fin 8192) :
    View.ld SC (Rect.unit (s := S4x64x8192) (k0_off4 (grid0.coords t)) S1x64x8192.size (k0_off4_inb (grid0.coords t) h5)) (ix3 0 r v)
      = SC (ix3 ⟨t.val % 4, Nat.mod_lt _ (by decide)⟩ r v) := by
  refine congrArg SC (funext fun a => Fin.ext ?_)
  have e := (slab_off t).2
  match a with
  | ⟨0, _⟩ => show k0_off4 (grid0.coords t) 0 + 1 * 0 = t.val % 4; rw [e]; rfl
  | ⟨1, _⟩ => show k0_off4 (grid0.coords t) 1 + 1 * r.val = r.val; rw [e]; show 0 + 1 * r.val = r.val; omega
  | ⟨2, _⟩ => show k0_off4 (grid0.coords t) 2 + 1 * v.val = v.val; rw [e]; show 0 + 1 * v.val = v.val; omega

end Cert.Value

end
-- ==== Proof.Value.Bounded.lean ====
/- The hidden states are finite, whatever the inputs are. -/
module

public import proofs.«01_k».proof.Proof.Value.Recurrent
public import proofs.«01_k».proof.Proof.Value.Softmax

@[expose] public section

noncomputable section

namespace Cert.Value

open Idealize.ShloMosaic

/-- The logistic function's value is finite. -/
theorem logistic_real (x : EReal) : ∃ r : ℝ, Ideal.logistic x = (r : EReal) := by
  unfold Ideal.logistic Ideal.div
  induction x using EReal.rec with
  | bot => exact ⟨0, by rw [EReal.neg_bot, show Ideal.exp ⊤ = ⊤ from rfl, show (1 : EReal) + ⊤ = ⊤ from EReal.coe_add_top 1]; simp⟩
  | top => exact ⟨1, by rw [EReal.neg_top, show Ideal.exp ⊥ = 0 from rfl]; simp⟩
  | coe r =>
    have h : (1 : EReal) + Ideal.exp (-(r : EReal)) = ((1 + Real.exp (-r) : ℝ) : EReal) := by
      rw [EReal.coe_add, ← EReal.coe_neg]; rfl
    have hp : (0 : ℝ) < 1 + Real.exp (-r) := by positivity
    refine ⟨(1 + Real.exp (-r))⁻¹, ?_⟩
    rw [h, if_neg (by exact_mod_cast hp.ne'), one_mul, EReal.coe_inv]

/-- The hyperbolic tangent's value is finite. -/
theorem tanh_real (x : EReal) : ∃ r : ℝ, Ideal.tanh x = (r : EReal) := by
  induction x using EReal.rec with
  | bot => exact ⟨-1, show (-1 : EReal) = _ by simp⟩
  | top => exact ⟨1, show (1 : EReal) = _ by simp⟩
  | coe r => exact ⟨Real.tanh r, rfl⟩

/-- A cell keeps a finite hidden state finite. -/
theorem cell_real (az ar at' : Row 256) (U : Fin 256 → Row 256) (bu : Row 256) {h : Row 256} (hh : Finite h) :
    Finite (cell az ar at' U bu h) := by
  intro j
  obtain ⟨z, hz⟩ := logistic_real (az j)
  obtain ⟨t, ht⟩ := tanh_real (at' j + rowDot (fun k => Ideal.logistic (ar k) * h k) U j + bu j)
  obtain ⟨r, hr⟩ := hh j
  refine ⟨z * t + (1 - z) * r, ?_⟩
  unfold cell
  rw [hz, ht, hr, EReal.coe_add, EReal.coe_mul, EReal.coe_mul, EReal.coe_sub, EReal.coe_one]

/-- The second layer's states are finite. -/
theorem hid2_real (w : Weights) (x : ℕ → Row 512) : ∀ n, Finite (hid2 w x n)
  | 0 => fun _ => ⟨0, by simp [hid2]⟩
  | n + 1 => cell_real _ _ _ _ _ (hid2_real w x n)

/-- A finite row times finite columns, plus a finite number, is finite. -/
theorem score_real {n k : ℕ} {x : Row n} {W : Fin n → Row k} {b : Row k} (hx : Finite x) (hW : ∀ i, Finite (W i)) (hb : Finite b) :
    Finite fun j => rowDot x W j + b j := by
  intro j
  choose f hf using hx
  choose g hg using hW
  obtain ⟨c, hc⟩ := hb j
  refine ⟨∑ i, f i * g i j + c, ?_⟩
  show ∑ i, x i * W i j + b j = _
  rw [hc, EReal.coe_add, ← coe_sum]
  refine congrArg (· + _) (Finset.sum_congr rfl fun i _ => ?_)
  rw [hf, hg, EReal.coe_mul]

end Cert.Value

end
-- ==== Proof.Value.HeadInv.lean ====
/- The head's scratch contents from point to point: the slabs of logits, the running maximum and the running sum. -/
module

public import proofs.«01_k».proof.Proof.Value.Head
public import proofs.«01_k».proof.Proof.Value.Blocks
public import proofs.«01_k».proof.Proof.Value.Bounded
public import proofs.«01_k».proof.Proof.KernelIdeal.Point

@[expose] public section

set_option maxRecDepth 16384

noncomputable section

namespace Cert.Value

open Idealize.ShloMosaic Idealize.ShloMosaic.TcCoe
open Cert.KernelIdeal Cert.KernelIdeal.Gen Cert.KernelIdeal.Hand

/-- The scores of a row: its hidden state's products with the head's columns, and the bias. -/
def score (hid : Fin 64 → Row 256) (Wg : Fin 256 → Row 30000) (bg : Row 30000) (r : Fin 64) : Row 30000 :=
  fun v => rowDot (hid r) Wg v + bg v

variable (hid : Fin 64 → Row 256) (Wg : Fin 256 → Row 30000) (bg : Row 30000)

/-- The scratch contents before point `n`: the hidden states, the kept slabs' scores, and the greatest score and the sum over the
    tiles seen. -/
def headInv : ScratchInv Ideal := fun n H _ SC M S => 0 < n →
  (∀ r k, H (ix2 r k) = hid r k) ∧ (∀ r, M (ix2 r 0) = mx (score hid Wg bg r) (cols (min n 4)))
    ∧ (∀ r, S (ix2 r 0) = sm (score hid Wg bg r) (cols (min n 4)))
    ∧ ∀ (j : Fin 4), j.val < min n 4 → ∀ r (v : Fin 8192) (h : 8192 * j.val + v.val < 30000),
        SC (ix3 j r v) = score hid Wg bg r ⟨8192 * j.val + v.val, h⟩

/-- The output block of a point of the second pass. -/
def headOut (_ : Dev nD) (t : Fin cfg0.N) : S64x8192.Idx → Elt Ideal .f32 := fun i =>
  if h : 8192 * (t.val % 4) + (i 1).val < 30000 then
    score hid Wg bg (i 0) ⟨8192 * (t.val % 4) + (i 1).val, h⟩
      - (mx (score hid Wg bg (i 0)) Finset.univ + Ideal.log (sm (score hid Wg bg (i 0)) Finset.univ))
  else 0

variable {hid Wg bg}

/-- The output block at a column inside the array. -/
theorem headOut_at (c : Dev nD) (t : Fin cfg0.N) (r : Fin 64) (v : Fin 8192) (h : 8192 * (t.val % 4) + v.val < 30000) :
    headOut hid Wg bg c t (ix2 r v) = score hid Wg bg r ⟨8192 * (t.val % 4) + v.val, h⟩
      - (mx (score hid Wg bg r) Finset.univ + Ideal.log (sm (score hid Wg bg r) Finset.univ)) := by
  unfold headOut
  exact dif_pos h

section Tile

variable {t : Fin cfg0.N} {H : FVec Ideal S64x256 .f32} {W : FVec Ideal S256x8192 .f32} {b : FVec Ideal S1x8192 .f32}

/-- A tile's blocks: the hidden states, and the columns inside the array. -/
structure TileData (t : Fin cfg0.N) (H : FVec Ideal S64x256 .f32) (W : FVec Ideal S256x8192 .f32) (b : FVec Ideal S1x8192 .f32)
    (hid : Fin 64 → Row 256) (Wg : Fin 256 → Row 30000) (bg : Row 30000) : Prop where
  lt : t.val < 4
  hH : ∀ r k, H (ix2 r k) = hid r k
  hW : ∀ (k : Fin 256) (v : Fin 8192) (h : 8192 * t.val + v.val < 30000), W (ix2 k v) = Wg k ⟨8192 * t.val + v.val, h⟩
  hb : ∀ (v : Fin 8192) (h : 8192 * t.val + v.val < 30000), b (ix2 0 v) = bg ⟨8192 * t.val + v.val, h⟩

/-- The tile's logits are the scores. -/
theorem TileData.logit (D : TileData t H W b hid Wg bg) (r : Fin 64) (v : Fin 8192) (h : 8192 * t.val + v.val < 30000) :
    k0_pay4 (F := Ideal) H W b (ix2 r v) = score hid Wg bg r ⟨8192 * t.val + v.val, h⟩ := by
  rw [pay4_at, D.hb v h]
  refine congrArg (· + _) (Finset.sum_congr rfl fun k _ => ?_)
  exact congrArg₂ (· * ·) (D.hH r k) (D.hW k v h)

/-- The tile's masked logits are the masked scores. -/
theorem TileData.masked (D : TileData t H W b hid Wg bg) (r : Fin 64) (v : Fin 8192) :
    k0_pay6 (F := Ideal) (grid0.coords t) H W b (ix2 r v) = Cert.Value.masked (score hid Wg bg r) t.val v := by
  obtain ⟨-, -, -, e, -⟩ := head_index t
  have e' : (grid0.coords t 1).val = t.val := by have := D.lt; omega
  rw [pay6_at, e']
  unfold Cert.Value.masked
  by_cases h : 8192 * t.val + v.val < 30000
  · rw [if_pos h, dif_pos h, D.logit r v h]
  · rw [if_neg h, dif_neg h]

/-- The tile's maximum is the greatest of its scores. -/
theorem TileData.max (D : TileData t H W b hid Wg bg) (r : Fin 64) :
    k0_pay7 (F := Ideal) (grid0.coords t) H W b (ix2 r 0) = mx (score hid Wg bg r) (tile t.val) := by
  rw [pay7_at, ← masked_max]
  exact Finset.fold_congr fun v _ => D.masked r v

/-- The tile's sum is the sum over its scores. -/
theorem TileData.sum (D : TileData t H W b hid Wg bg) (hL : ∀ r, Finite (score hid Wg bg r)) (r : Fin 64) :
    k0_pay8 (F := Ideal) (grid0.coords t) H W b (ix2 r 0) = sm (score hid Wg bg r) (tile t.val) := by
  rw [pay8_at, ← masked_sum (hL r) D.lt, D.max r]
  exact Finset.sum_congr rfl fun v _ => by rw [D.masked r v]

/-- The slabs after the tile's. -/
theorem TileData.slabs (D : TileData t H W b hid Wg bg) {SC : S4x64x8192.Idx → Elt Ideal .f32}
    (hSC : ∀ (j : Fin 4), j.val < t.val → ∀ r (v : Fin 8192) (h : 8192 * j.val + v.val < 30000),
        SC (ix3 j r v) = score hid Wg bg r ⟨8192 * j.val + v.val, h⟩)
    (j : Fin 4) (hj : j.val < t.val + 1) (r : Fin 64) (v : Fin 8192) (h : 8192 * j.val + v.val < 30000) :
    VecWindow.put (s := S4x64x8192) (α := Elt Ideal .f32) SC (k0_off3 (grid0.coords t)) S1x64x8192.size (k0_pay5 (F := Ideal) H W b) (ix3 j r v)
      = score hid Wg bg r ⟨8192 * j.val + v.val, h⟩ := by
  rw [slab_put t D.lt]
  by_cases e : j.val = t.val
  · rw [if_pos e]
    have h' : 8192 * t.val + v.val < 30000 := e ▸ h
    refine (pay5_at H W b r v).trans ((D.logit r v h').trans ?_)
    exact congrArg (score hid Wg bg r) (Fin.ext (by show 8192 * t.val + v.val = 8192 * j.val + v.val; rw [e]))
  · rw [if_neg e]
    exact hSC j (by omega) r v h

end Tile

end Cert.Value

end
-- ==== Proof.Value.Inputs.lean ====
module
public import proofs.«01_k».proof.Proof.Value.Graph
public import proofs.«01_k».proof.Proof.Value.HeadInv
@[expose] public section
set_option maxRecDepth 16384

/-! # The arguments as the layers' data

The 24 argument arrays, by name, and what each layer takes of them: the samples' graphs, the recurrent layers' weights
and inputs, the head's weights and bias. -/

noncomputable section
namespace Cert.Value
open Idealize.ShloMosaic
open Cert.KernelIdeal

/-- The argument arrays. -/
structure Arrays where
  words : IVec S4x16x160 32
  table : FVec Ideal S50000x256 .f32
  Wgat : FVec Ideal S256x256 .f32
  asrc : FVec Ideal S8x32 .f32
  adst : FVec Ideal S8x32 .f32
  bgat : FVec Ideal S256 .f32
  Wz1 : FVec Ideal S512x256 .f32
  Uz1 : FVec Ideal S256x256 .f32
  Wr1 : FVec Ideal S512x256 .f32
  Ur1 : FVec Ideal S256x256 .f32
  W1 : FVec Ideal S512x256 .f32
  bW1 : FVec Ideal S256 .f32
  U1 : FVec Ideal S256x256 .f32
  bU1 : FVec Ideal S256 .f32
  Wz2 : FVec Ideal S256x256 .f32
  Uz2 : FVec Ideal S256x256 .f32
  Wr2 : FVec Ideal S256x256 .f32
  Ur2 : FVec Ideal S256x256 .f32
  W2 : FVec Ideal S256x256 .f32
  bW2 : FVec Ideal S256 .f32
  U2 : FVec Ideal S256x256 .f32
  bU2 : FVec Ideal S256 .f32
  Wg : FVec Ideal S256x30000 .f32
  bg : FVec Ideal S30000 .f32

namespace Arrays
variable (A : Arrays)

/-- Word `j` of sample `r`: 32 node words, then 64 edge sources, then 64 edge targets. -/
def word (r : Fin 64) (j : Fin 160) : BitVec 32 := A.words (ix3 ⟨r.val / 16, by omega⟩ ⟨r.val % 16, by omega⟩ j)

/-- A word read as one of 32. -/
def small (x : BitVec 32) : Fin 32 := ⟨x.toNat % 32, by omega⟩

/-- The samples' graphs: each sample's 64 edges, then node 0's own loop. -/
def graph : Graph where
  node r i := small (A.word r ⟨i.val, by omega⟩)
  src r e := if h : e.val < 64 then small (A.word r ⟨32 + e.val, by omega⟩) else 0
  into r e := if h : e.val < 64 then decide (A.word r ⟨96 + e.val, by omega⟩ = 0#32) else true
  X i k := A.table (ix2 ⟨i.val, by omega⟩ k)
  W d k := A.Wgat (ix2 d k)
  aS h c := A.asrc (ix2 h c)
  aD h c := A.adst (ix2 h c)
  b k := A.bgat (ix1 k)

/-- The recurrent layers' weights. -/
def weights : Weights where
  Wz1 i j := A.Wz1 (ix2 i j)
  Uz1 i j := A.Uz1 (ix2 i j)
  Wr1 i j := A.Wr1 (ix2 i j)
  Ur1 i j := A.Ur1 (ix2 i j)
  W1 i j := A.W1 (ix2 i j)
  bW1 j := A.bW1 (ix1 j)
  U1 i j := A.U1 (ix2 i j)
  bU1 j := A.bU1 (ix1 j)
  Wz2 i j := A.Wz2 (ix2 i j)
  Uz2 i j := A.Uz2 (ix2 i j)
  Wr2 i j := A.Wr2 (ix2 i j)
  Ur2 i j := A.Ur2 (ix2 i j)
  W2 i j := A.W2 (ix2 i j)
  bW2 j := A.bW2 (ix1 j)
  U2 i j := A.U2 (ix2 i j)
  bU2 j := A.bU2 (ix1 j)

/-- The recurrent layers' inputs. -/
def input (k : ℕ) : Row 512 := if h : k < 64 then A.graph.input ⟨k, h⟩ else 0

/-- The second layer's state after each of the 64 inputs. -/
def hid (r : Fin 64) : Row 256 := hid2 A.weights A.input (r.val + 1)

/-- The head's weights. -/
def headW (k : Fin 256) : Row 30000 := fun v => A.Wg (ix2 k v)

/-- The head's bias. -/
def headB : Row 30000 := fun v => A.bg (ix1 v)

/-- What the certificate asks of the arguments: every word is below 32, and the head's weights and bias are finite. -/
structure Ok : Prop where
  words : ∀ r j, (A.word r j).toNat < 32
  headW : ∀ k, Finite (A.headW k)
  headB : Finite A.headB

variable {A}

/-- A word below 32 is the word of what it reads as. -/
theorem Ok.small (h : A.Ok) (r : Fin 64) (j : Fin 160) : BitVec.ofNat 32 (Arrays.small (A.word r j)).val = A.word r j := by
  have := h.words r j
  show BitVec.ofNat 32 ((A.word r j).toNat % 32) = _
  rw [Nat.mod_eq_of_lt this]
  simp

end Arrays
end Cert.Value
end
-- ==== Proof.Value.Domain.lean ====
module

public import proofs.«01_k».proof.Defs
public import proofs.«01_k».proof.Proof.Value.Inputs
public import Idealize.ShloMosaic.Lib.ReduceAll
public import Idealize.ShloMosaic.Lib.WordCmp

@[expose] public section
set_option maxRecDepth 16384

/-! # The precondition

What the precondition says of the arguments: every word is below 32, and the head's weights and bias are finite. -/

noncomputable section

namespace Cert.Value

open Idealize.ShloMosaic

/-- The shapes the precondition names fit together. -/
instance domainFacts : Cert.Pre_inputs_ok.Facts where
  bcast_S_S4x16x160 := by decide
  reducesTo_S4x16x160_S_d0_1_2 := by decide
  h_S_ := by decide
  bcast_S_S256x30000 := by decide
  reducesTo_S256x30000_S_d0_1 := by decide
  bcast_S_S30000 := by decide
  reducesTo_S30000_S_d0 := by decide

instance : Subsingleton Cert.Pre_inputs_ok.S_.Idx := ⟨fun _ _ => funext fun a => a.elim0⟩

/-- A value whose magnitude is less than infinity is finite. -/
theorem finite_of_lt {x : Ideal .f32}
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h1 : BitVec.ofBool (decide (max (x : EReal) (-(x : EReal)) < Ideal.ofBits .f32 0x7F800000#32)) = 1#1 := h
  rw [htop, WordCmp.ofBool_decide_eq_one_iff, max_lt_iff] at h1
  have ht : (x : EReal) ≠ ⊤ := ne_of_lt h1.1
  have hb : (x : EReal) ≠ ⊥ := fun e => absurd h1.2 (by rw [e]; simp)
  exact ⟨EReal.toReal x, (EReal.coe_toReal ht hb).symm⟩

/-- The arguments the precondition admits. -/
theorem ok_of_pre {A : Arrays} (h : Cert.Pre_inputs_ok.fn (F := Ideal) A.words A.table A.Wgat A.asrc A.adst A.bgat A.Wz1 A.Uz1 A.Wr1 A.Ur1
    A.W1 A.bW1 A.U1 A.bU1 A.Wz2 A.Uz2 A.Wr2 A.Ur2 A.W2 A.bW2 A.U2 A.bU2 A.Wg A.bg = fun _ => 1#1) : A.Ok := by
  obtain ⟨h12, h3⟩ := IntOp.andi_eq_one.1 (congrFun h (fun a => a.elim0))
  obtain ⟨h1, h2⟩ := IntOp.andi_eq_one.1 h12
  refine ⟨fun r j => ?_, fun k v => ?_, fun v => ?_⟩
  · have e := Host.reduce_andi_all _ _ _ _ _ h1 (ix3 ⟨r.val / 16, by omega⟩ ⟨r.val % 16, by omega⟩ j)
    have e' : IntOp.andi (IntOp.cmpi .sge (A.word r j) 0#32) (IntOp.cmpi .slt (A.word r j) (BitVec.ofNat 32 32)) = 1#1 := e
    rw [WordCmp.andi_sge_zero_slt_ofNat (by decide), WordCmp.ofBool_decide_eq_one_iff] at e'
    exact e'
  · exact finite_of_lt (Host.reduce_andi_all _ _ _ _ _ h2 (ix2 k v))
  · exact finite_of_lt (Host.reduce_andi_all _ _ _ _ _ h3 (ix1 v))

end Cert.Value
end
-- ==== Proof.Value.Gathers.lean ====
module

public import proofs.«01_k».proof.Proof.Gen.ReferenceIdeal.Run
public import Idealize.ShloMosaic.PureOps.Ideal
public import Idealize.ShloMosaic.Lib.Pointwise
public import Idealize.ShloMosaic.Lib.Routing.Ops
public import Idealize.ShloMosaic.Lib.WordCmp

set_option maxRecDepth 16384

open Idealize.ShloMosaic Idealize.ShloMosaic.TcCoe
open Cert.ReferenceIdeal Cert.ReferenceIdeal.Gen

namespace Cert.RefValue

@[expose] public section

variable {α : Type}

/-- Taking 2048 rows of the table: where the index column holds the row number `n`, the result's row is the table's row `n`. -/
theorem take_table (x : S50000x256.Idx → α) (idx : IVec S2048x1 32) (i : Fin 2048) (k : Fin 256) (n : Fin 50000)
    (h : idx (ix2 i (0 : Fin 1)) = BitVec.ofNat 32 n.val) :
    Host.gather gather_S50000x256_S2048x1_S2048x256_1_0_n_n_0_1_1256 x idx (ix2 i k) = x (ix2 n k) :=
  Routing.gather_row _ rfl rfl rfl rfl rfl x idx i k n h (by norm_num)

/-- The same for 64 rows of the table. -/
theorem take_first (x : S50000x256.Idx → α) (idx : IVec S64x1 32) (i : Fin 64) (k : Fin 256) (n : Fin 50000)
    (h : idx (ix2 i (0 : Fin 1)) = BitVec.ofNat 32 n.val) :
    Host.gather gather_S50000x256_S64x1_S64x256_1_0_n_n_0_1_1256 x idx (ix2 i k) = x (ix2 n k) :=
  Routing.gather_row _ rfl rfl rfl rfl rfl x idx i k n h (by norm_num)

/-- A row number below 2048, kept as a 32-bit word, is read back and clamped into the 2048 rows unchanged. -/
theorem clamp_row (n : Fin 2048) : min (BitVec.ofNat 32 n.val).toInt.toNat (2048 - 1) = n.val := by
  have h := n.isLt
  rw [WordCmp.toInt_ofNat_of_lt (by omega)]
  omega

/-- Taking a row of the per-head sums for every edge: where the index holds the row number `n`, the entry is the one of row `n`. -/
theorem take_sums (x : S2048x8.Idx → α) (idx : IVec S64x96x1 32) (r : Fin 64) (e : Fin 96) (k : Fin 8) (n : Fin 2048)
    (h : idx (ix3 r e (0 : Fin 1)) = BitVec.ofNat 32 n.val) :
    Host.gather gather_S2048x8_S64x96x1_S64x96x8_2_0_n_n_0_2_18 x idx (ix3 r e k) = x (ix2 n k) := by
  unfold Host.gather
  refine congrArg x (funext fun a => Fin.ext ?_)
  match a with
  | ⟨0, _⟩ =>
    have hs : gather_S2048x8_S64x96x1_S64x96x8_2_0_n_n_0_2_18.start (ix3 r e k) idx 0
        = min (idx (ix3 r e (0 : Fin 1))).toInt.toNat (2048 - 1) := by
      unfold GatherDims.start
      rw [dif_pos (by decide)]
      congr 3
      congr 1
      funext b
      match b with
      | ⟨0, _⟩ => rfl
      | ⟨1, _⟩ => rfl
      | ⟨2, _⟩ => rfl
    show GatherDims.start _ (ix3 r e k) idx 0 + 0 + 0 = n.val
    rw [hs, h, clamp_row]
    rfl
  | ⟨1, _⟩ =>
    show 0 + 0 + k.val = k.val
    omega

/-- Taking a row of the projected nodes for every edge: where the index holds the row number `n`, the entry is the one of row `n`. -/
theorem take_nodes (x : S2048x8x32.Idx → α) (idx : IVec S64x96x1 32) (r : Fin 64) (e : Fin 96) (k : Fin 8) (c : Fin 32)
    (n : Fin 2048) (h : idx (ix3 r e (0 : Fin 1)) = BitVec.ofNat 32 n.val) :
    Host.gather gather_S2048x8x32_S64x96x1_S64x96x8x32_23_0_n_n_0_2_1832 x idx (ix4 r e k c) = x (ix3 n k c) := by
  unfold Host.gather
  refine congrArg x (funext fun a => Fin.ext ?_)
  match a with
  | ⟨0, _⟩ =>
    have hs : gather_S2048x8x32_S64x96x1_S64x96x8x32_23_0_n_n_0_2_1832.start (ix4 r e k c) idx 0
        = min (idx (ix3 r e (0 : Fin 1))).toInt.toNat (2048 - 1) := by
      unfold GatherDims.start
      rw [dif_pos (by decide)]
      congr 3
      congr 1
      funext b
      match b with
      | ⟨0, _⟩ => rfl
      | ⟨1, _⟩ => rfl
      | ⟨2, _⟩ => rfl
    show GatherDims.start _ (ix4 r e k c) idx 0 + 0 + 0 = n.val
    rw [hs, h, clamp_row]
    rfl
  | ⟨1, _⟩ =>
    show 0 + 0 + k.val = k.val
    omega
  | ⟨2, _⟩ =>
    show 0 + 0 + c.val = c.val
    omega

end

end Cert.RefValue
-- ==== Proof.Value.RefEdges.lean ====
module

public import proofs.«01_k».proof.Proof.Value.Gathers
public import proofs.«01_k».proof.Proof.Value.Inputs
public import Idealize.ShloMosaic.Lib.StableHlo.RunRead
public import Idealize.ShloMosaic.Lib.Routing.OpsPair

@[expose] public section
set_option maxRecDepth 16384

/-! # The reference's edges

The reference's first run of host operations: the nodes' projected rows, the per-head sums against the two attention
vectors, and every edge's score, read at an index in terms of the samples' graphs. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph)

variable (V : Valuation τ sig (Elt Ideal))

/-- The argument arrays that a valuation holds. -/
def args : Arrays where
  words := V (Proc.devRef .tc main_arg0)
  table := V (Proc.devRef .tc main_arg1)
  Wgat := V (Proc.devRef .tc main_arg2)
  asrc := V (Proc.devRef .tc main_arg3)
  adst := V (Proc.devRef .tc main_arg4)
  bgat := V (Proc.devRef .tc main_arg5)
  Wz1 := V (Proc.devRef .tc main_arg6)
  Uz1 := V (Proc.devRef .tc main_arg7)
  Wr1 := V (Proc.devRef .tc main_arg8)
  Ur1 := V (Proc.devRef .tc main_arg9)
  W1 := V (Proc.devRef .tc main_arg10)
  bW1 := V (Proc.devRef .tc main_arg11)
  U1 := V (Proc.devRef .tc main_arg12)
  bU1 := V (Proc.devRef .tc main_arg13)
  Wz2 := V (Proc.devRef .tc main_arg14)
  Uz2 := V (Proc.devRef .tc main_arg15)
  Wr2 := V (Proc.devRef .tc main_arg16)
  Ur2 := V (Proc.devRef .tc main_arg17)
  W2 := V (Proc.devRef .tc main_arg18)
  bW2 := V (Proc.devRef .tc main_arg19)
  U2 := V (Proc.devRef .tc main_arg20)
  bU2 := V (Proc.devRef .tc main_arg21)
  Wg := V (Proc.devRef .tc main_arg22)
  bg := V (Proc.devRef .tc main_arg23)

/-- An edge's source node; the last 32 edges are the nodes' own loops. -/
def srcOf (A : Arrays) (r : Fin 64) (e : Fin 96) : Fin 32 :=
  if h : e.val < 64 then Arrays.small (A.word r ⟨32 + e.val, by omega⟩) else ⟨e.val - 64, by omega⟩

/-- An edge's target node; the last 32 edges are the nodes' own loops. -/
def dstOf (A : Arrays) (r : Fin 64) (e : Fin 96) : Fin 32 :=
  if h : e.val < 64 then Arrays.small (A.word r ⟨96 + e.val, by omega⟩) else ⟨e.val - 64, by omega⟩

/-- The row of a sample's node among all samples' nodes. -/
def nodeRow (r : Fin 64) (i : Fin 32) : Fin 2048 := ⟨32 * r.val + i.val, by omega⟩

/-! The arrays the operations before the attention's softmax make, by name. -/

abbrev nodeWords : IVec S2048x1 32 := StableHlo.after hostOps0 V (Proc.devRef .tc main_v10)
abbrev nodeRows : FVec Ideal S2048x256 .f32 := StableHlo.after hostOps0 V (Proc.devRef .tc main_v11)
abbrev firstWords : IVec S64x1 32 := StableHlo.after hostOps0 V (Proc.devRef .tc main_v19)
abbrev firstRows : FVec Ideal S64x256 .f32 := StableHlo.after hostOps0 V (Proc.devRef .tc main_v20)
abbrev projected : FVec Ideal S2048x8x32 .f32 := StableHlo.after hostOps0 V (Proc.devRef .tc main_v22)
abbrev srcWords : IVec S64x96 32 := StableHlo.after hostOps0 V (Proc.devRef .tc main_v28)
abbrev dstWords : IVec S64x96 32 := StableHlo.after hostOps0 V (Proc.devRef .tc main_v31)
abbrev offsets : IVec S64x1 32 := StableHlo.after hostOps0 V (Proc.devRef .tc main_v35)
abbrev srcSums : FVec Ideal S2048x8 .f32 := StableHlo.after hostOps0 V (Proc.devRef .tc main_v39)
abbrev dstSums : FVec Ideal S2048x8 .f32 := StableHlo.after hostOps0 V (Proc.devRef .tc main_v43)
abbrev srcIndex : IVec S64x96x1 32 := StableHlo.after hostOps0 V (Proc.devRef .tc main_v51)
abbrev srcScores : FVec Ideal S64x96x8 .f32 := StableHlo.after hostOps0 V (Proc.devRef .tc main_v52)
abbrev dstIndex : IVec S64x96x1 32 := StableHlo.after hostOps0 V (Proc.devRef .tc main_v60)
abbrev dstScores : FVec Ideal S64x96x8 .f32 := StableHlo.after hostOps0 V (Proc.devRef .tc main_v61)
abbrev scores : FVec Ideal S64x96x8 .f32 := StableHlo.after hostOps0 V (Proc.devRef .tc main_v62)

/-- A word below 32 has no sign, so counting negative words from the end leaves it alone. -/
theorem wrap_word (A : Arrays) (hA : A.Ok) (r : Fin 64) (j : Fin 160) (a : BitVec 32) :
    Scalar.select (IntOp.cmpi .slt (A.word r j) 0#32) a (A.word r j) = BitVec.ofNat 32 (Arrays.small (A.word r j)).val := by
  rw [hA.small]
  exact Routing.wrap_of_lt _ _ (lt_trans (hA.words r j) (by norm_num))

/-- The row number of a node, as a word: 32 times the sample, plus the node. -/
theorem row_word (r : Fin 64) (i : Fin 32) :
    IntOp.addi (IntOp.muli 32#32 (BitVec.ofNat 32 r.val)) (BitVec.ofNat 32 i.val) = BitVec.ofNat 32 (nodeRow r i).val := by
  apply BitVec.eq_of_toNat_eq
  simp only [IntOp.addi, IntOp.muli, BitVec.toNat_add, BitVec.toNat_mul, BitVec.toNat_ofNat, nodeRow]
  omega

/-- A row number has no sign either. -/
theorem wrap_row (n : Fin 2048) (a : BitVec 32) :
    Scalar.select (IntOp.cmpi .slt (BitVec.ofNat 32 n.val) 0#32) a (BitVec.ofNat 32 n.val) = BitVec.ofNat 32 n.val := by
  refine Routing.wrap_of_lt _ _ ?_
  rw [BitVec.toNat_ofNat]
  omega

variable {V} (hA : (args V).Ok)
include hA

/-- The table row asked for, node by node. -/
theorem nodeWords_at (r : Fin 64) (i : Fin 32) :
    nodeWords V (ix2 (nodeRow r i) (0 : Fin 1)) = BitVec.ofNat 32 ((args V).graph.node r i).val := by
  refine Eq.trans ?_ (wrap_word (args V) hA r ⟨i.val, by omega⟩ (IntOp.addi ((args V).word r ⟨i.val, by omega⟩) 50000#32))
  have h1 : (nodeRow r i).val / 32 = r.val := by show (32 * r.val + i.val) / 32 = _; omega
  have h2 : (nodeRow r i).val % 32 = i.val := by show (32 * r.val + i.val) % 32 = _; omega
  have key : ∀ n : Fin 2048, nodeWords V (ix2 n (0 : Fin 1)) =
      Scalar.select (IntOp.cmpi .slt ((args V).word ⟨n.val / 32, by omega⟩ ⟨n.val % 32, by omega⟩) 0#32)
        (IntOp.addi ((args V).word ⟨n.val / 32, by omega⟩ ⟨n.val % 32, by omega⟩) 50000#32)
        ((args V).word ⟨n.val / 32, by omega⟩ ⟨n.val % 32, by omega⟩) := by
    intro n
    simp only [nodeWords, Arrays.word, args]
    after_reads_simp
    pointwise
  rw [key]
  simp only [h1, h2]

/-- The table's row of each node. -/
theorem nodeRows_at (r : Fin 64) (i : Fin 32) (k : Fin 256) :
    nodeRows V (ix2 (nodeRow r i) k) = (args V).graph.X ((args V).graph.node r i) k := by
  have : nodeRows V = Host.gather gather_S50000x256_S2048x1_S2048x256_1_0_n_n_0_1_1256 (args V).table (nodeWords V) := by
    simp only [nodeRows, nodeWords, args]
    after_reads_simp
  rw [this]
  exact take_table _ _ _ _ ⟨((args V).graph.node r i).val, by omega⟩ (nodeWords_at hA r i)

/-- The table's row of each sample's first node. -/
theorem firstRows_at (r : Fin 64) (k : Fin 256) :
    firstRows V (ix2 r k) = (args V).graph.X ((args V).graph.node r 0) k := by
  have : firstRows V = Host.gather gather_S50000x256_S64x1_S64x256_1_0_n_n_0_1_1256 (args V).table (firstWords V) := by
    simp only [firstRows, firstWords, args]
    after_reads_simp
  rw [this]
  refine take_first _ _ _ _ ⟨((args V).graph.node r 0).val, by omega⟩ ?_
  refine Eq.trans ?_ (wrap_word (args V) hA r 0 (IntOp.addi ((args V).word r 0) 50000#32))
  simp only [firstWords, Arrays.word, args]
  after_reads_simp
  pointwise

/-- Each node's projected row. -/
theorem projected_at (r : Fin 64) (i : Fin 32) (h : Fin 8) (c : Fin 32) :
    projected V (ix3 (nodeRow r i) h c) = (args V).graph.xw ((args V).graph.node r i) (Graph.col h c) := by
  have key : ∀ n : Fin 2048, projected V (ix3 n h c) = ∑ d : Fin 256, nodeRows V (ix2 n d) * (args V).Wgat (ix2 d (Graph.col h c)) := by
    intro n
    simp only [projected, nodeRows, args]
    after_reads_simp
    pointwise
    rfl
  rw [key]
  exact Finset.sum_congr rfl fun d _ => congrArg (· * _) (nodeRows_at hA r i d)

/-- Each node's sum against the sources' attention vector. -/
theorem srcSums_at (r : Fin 64) (i : Fin 32) (h : Fin 8) :
    srcSums V (ix2 (nodeRow r i) h) = (args V).graph.att (args V).graph.aS ((args V).graph.node r i) h := by
  have key : ∀ n : Fin 2048, srcSums V (ix2 n h) = ∑ c : Fin 32, projected V (ix3 n h c) * (args V).asrc (ix2 h c) := by
    intro n
    simp only [projected, srcSums, args]
    after_reads_simp
    pointwise
  rw [key]
  exact Finset.sum_congr rfl fun c _ => congrArg (· * _) (projected_at hA r i h c)

/-- Each node's sum against the targets' attention vector. -/
theorem dstSums_at (r : Fin 64) (i : Fin 32) (h : Fin 8) :
    dstSums V (ix2 (nodeRow r i) h) = (args V).graph.att (args V).graph.aD ((args V).graph.node r i) h := by
  have key : ∀ n : Fin 2048, dstSums V (ix2 n h) = ∑ c : Fin 32, projected V (ix3 n h c) * (args V).adst (ix2 h c) := by
    intro n
    simp only [projected, dstSums, args]
    after_reads_simp
    pointwise
  rw [key]
  exact Finset.sum_congr rfl fun c _ => congrArg (· * _) (projected_at hA r i h c)

/-- The edges' sources, as words. -/
theorem srcWords_at (r : Fin 64) (e : Fin 96) : srcWords V (ix2 r e) = BitVec.ofNat 32 (srcOf (args V) r e).val := by
  have key : srcWords V (ix2 r e) =
      if h : e.val < 64 then (args V).word r ⟨32 + e.val, by omega⟩ else BitVec.ofNat 32 (e.val - 64) := by
    simp only [srcWords, Arrays.word, args]
    after_reads_simp
    pointwise
  rw [key]
  unfold srcOf
  split
  · exact (hA.small _ _).symm
  · rfl

/-- The edges' targets, as words. -/
theorem dstWords_at (r : Fin 64) (e : Fin 96) : dstWords V (ix2 r e) = BitVec.ofNat 32 (dstOf (args V) r e).val := by
  have key : dstWords V (ix2 r e) =
      if h : e.val < 64 then (args V).word r ⟨96 + e.val, by omega⟩ else BitVec.ofNat 32 (e.val - 64) := by
    simp only [dstWords, Arrays.word, args]
    after_reads_simp
    pointwise
    by_cases h : e.val < 64
    · simp only [dif_pos h]
      exact congrArg ((args V).word r) (Fin.ext (by show 32 + (64 + e.val) = 96 + e.val; omega))
    · simp only [dif_neg h]
  rw [key]
  unfold dstOf
  split
  · exact (hA.small _ _).symm
  · rfl

/-- The rows of the edges' sources. -/
theorem srcIndex_at (r : Fin 64) (e : Fin 96) :
    srcIndex V (ix3 r e (0 : Fin 1)) = BitVec.ofNat 32 (nodeRow r (srcOf (args V) r e)).val := by
  have key : srcIndex V (ix3 r e (0 : Fin 1)) =
      Scalar.select (IntOp.cmpi .slt (IntOp.addi (IntOp.muli 32#32 (BitVec.ofNat 32 r.val)) (srcWords V (ix2 r e))) 0#32)
        (IntOp.addi (IntOp.addi (IntOp.muli 32#32 (BitVec.ofNat 32 r.val)) (srcWords V (ix2 r e))) 2048#32)
        (IntOp.addi (IntOp.muli 32#32 (BitVec.ofNat 32 r.val)) (srcWords V (ix2 r e))) := by
    simp only [srcWords, srcIndex]
    after_reads_simp
    pointwise
    after_reads_simp
    pointwise
  rw [key, srcWords_at hA, row_word, wrap_row]

/-- The rows of the edges' targets. -/
theorem dstIndex_at (r : Fin 64) (e : Fin 96) :
    dstIndex V (ix3 r e (0 : Fin 1)) = BitVec.ofNat 32 (nodeRow r (dstOf (args V) r e)).val := by
  have key : dstIndex V (ix3 r e (0 : Fin 1)) =
      Scalar.select (IntOp.cmpi .slt (IntOp.addi (IntOp.muli 32#32 (BitVec.ofNat 32 r.val)) (dstWords V (ix2 r e))) 0#32)
        (IntOp.addi (IntOp.addi (IntOp.muli 32#32 (BitVec.ofNat 32 r.val)) (dstWords V (ix2 r e))) 2048#32)
        (IntOp.addi (IntOp.muli 32#32 (BitVec.ofNat 32 r.val)) (dstWords V (ix2 r e))) := by
    simp only [dstWords, dstIndex]
    after_reads_simp
    pointwise
    after_reads_simp
    pointwise
  rw [key, dstWords_at hA, row_word, wrap_row]

/-- Every edge's score: its source's sum and its target's. -/
theorem scores_at (r : Fin 64) (e : Fin 96) (h : Fin 8) :
    scores V (ix3 r e h) = (args V).graph.att (args V).graph.aS ((args V).graph.node r (srcOf (args V) r e)) h
      + (args V).graph.att (args V).graph.aD ((args V).graph.node r (dstOf (args V) r e)) h := by
  have h1 : srcScores V = Host.gather gather_S2048x8_S64x96x1_S64x96x8_2_0_n_n_0_2_18 (srcSums V) (srcIndex V) := by
    simp only [srcScores, srcSums, srcIndex]
    after_reads_simp
  have h2 : dstScores V = Host.gather gather_S2048x8_S64x96x1_S64x96x8_2_0_n_n_0_2_18 (dstSums V) (dstIndex V) := by
    simp only [dstScores, dstSums, dstIndex]
    after_reads_simp
  have key : scores V = addf (srcScores V) (dstScores V) := by
    simp only [scores, srcScores, dstScores]
    after_reads_simp
  rw [key, h1, h2]
  show Host.gather _ _ _ _ + Host.gather _ _ _ _ = _
  rw [take_sums _ _ _ _ _ _ (srcIndex_at hA r e), take_sums _ _ _ _ _ _ (dstIndex_at hA r e), srcSums_at hA, dstSums_at hA]

end Cert.RefValue

end
-- ==== Proof.Value.FrontBits.lean ====
module
public import proofs.«01_k».proof.Proof.Value.Head
public import proofs.«01_k».proof.Proof.Value.Graph
@[expose] public section
set_option maxRecDepth 16384

/-! # The kernel's selector matrices

The kernel gathers and scatters by products with matrices of zeros and ones. Each such matrix is read here as a
condition on its two indices. -/

noncomputable section
namespace Cert.Value
open Idealize.ShloMosaic
open Cert.KernelIdeal Cert.KernelIdeal.Gen Cert.KernelIdeal.Hand

/-- Edge `e` of sample `r` among the 4160 edges. -/
def edge (r : Fin 64) (e : Fin 65) : Fin 4160 := ⟨r.val * 65 + e.val, by omega⟩

/-- A sum over all the edges, sample by sample. -/
theorem sum_edges (f : Fin 4160 → EReal) : ∑ k, f k = ∑ r, ∑ e, f (edge r e) :=
  Fin.sum_univ_tiles 64 65 rfl f

/-- An equality of words converted to a float. -/
theorem bit_val (a b : BitVec 32) :
    (FloatOps.sitofp .f32 (BitVec.setWidth 32 (IntOp.cmpi .eq a b)) : Ideal .f32) = if a = b then (1 : EReal) else 0 := by
  show (((BitVec.setWidth 32 (BitVec.ofBool (a == b))).toInt : ℝ) : EReal) = _
  by_cases h : a = b
  · simp [h]
  · have e : (a == b) = false := by simpa using h
    simp [e, h]

/-- Small numbers are equal when their words are. -/
theorem ofNat_inj {a b : ℕ} (ha : a < 4294967296) (hb : b < 4294967296) : BitVec.ofNat 32 a = BitVec.ofNat 32 b ↔ a = b := by
  constructor
  · intro h
    have := congrArg BitVec.toNat h
    simpa [Nat.mod_eq_of_lt ha, Nat.mod_eq_of_lt hb] using this
  · rintro rfl; rfl

/-- The kernel's division of words rounding down. -/
def floorDiv (x d : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi ArithUnit.vector x d) 0#32))
    (IntOp.subi (IntOp.divsi ArithUnit.vector x d) 1#32) (IntOp.divsi ArithUnit.vector x d)

/-- Of an edge's number by 65 it is the sample. -/
theorem floorDiv_edge : ∀ f : Fin 4160, floorDiv (BitVec.ofNat 32 f) 65#32 = BitVec.ofNat 32 (f.val / 65) := by decide +kernel

/-- Of a column's number by 32 it is the head. -/
theorem floorDiv_col : ∀ f : Fin 256, floorDiv (BitVec.ofNat 32 f) 32#32 = BitVec.ofNat 32 (f.val / 32) := by decide +kernel

/-- Edge `e` of sample `r` is of sample `r`. -/
theorem edge_sample (r r' : Fin 64) (e : Fin 65) :
    floorDiv (BitVec.ofNat 32 (edge r e)) 65#32 = BitVec.ofNat 32 r' ↔ r = r' := by
  rw [floorDiv_edge, ofNat_inj (by omega) (by omega), Fin.ext_iff]
  unfold edge; dsimp only; omega

/-- A column's head. -/
theorem col_head (k : Fin 256) (h : Fin 8) : floorDiv (BitVec.ofNat 32 k) 32#32 = BitVec.ofNat 32 h ↔ Graph.head k = h := by
  rw [floorDiv_col, ofNat_inj (by omega) (by omega), Fin.ext_iff]
  rfl

/-- The selector of a sample's edges: column `r'` is one at the edges of sample `r'`. -/
theorem pay26_at (r r' : Fin 64) (e : Fin 65) : k0_pay26 (F := Ideal) (ix2 (edge r e) r') = if r = r' then (1 : EReal) else 0 := by
  pointwise [k0_pay26]
  exact (bit_val (floorDiv _ _) _).trans (if_congr (edge_sample r r' e) rfl rfl)

/-- Its transpose, built on its own. -/
def toht : FVec Ideal S64x4160 .f32 := k0_pay30 (iota .tc S64x4160 32 [1] iota_S64x4160_d1_w32) k0_pay27 k0_pay28 k0_pay29

/-- The transpose's entries. -/
theorem toht_at (r r' : Fin 64) (e : Fin 65) : toht (ix2 r' (edge r e)) = if r = r' then (1 : EReal) else 0 := by
  unfold toht
  pointwise [k0_pay27, k0_pay28, k0_pay29, k0_pay30]
  exact (bit_val (floorDiv _ _) _).trans (if_congr (edge_sample r r' e) rfl rfl)

/-- The selector of a head's columns. -/
theorem pay22_at (k : Fin 256) (h : Fin 8) : k0_pay22 (F := Ideal) (ix2 k h) = if Graph.head k = h then (1 : EReal) else 0 := by
  pointwise [k0_pay22]
  exact (bit_val (floorDiv _ _) _).trans (if_congr (col_head k h) rfl rfl)

/-- The selector of each sample's first node. -/
theorem pay32_at (x : IVec S64x1 32) (r : Fin 64) (i n : Fin 32) (hx : x (ix2 r 0) = BitVec.ofNat 32 n) :
    k0_pay32 (F := Ideal) x (ix2 r i) = if i = n then (1 : EReal) else 0 := by
  pointwise [k0_pay32]
  rw [bit_val, hx]
  exact if_congr ((ofNat_inj (by omega) (by omega)).trans Fin.ext_iff.symm) rfl rfl

/-- A sum against a selector on the left is the entry selected. -/
theorem sum_sel {n : ℕ} (k : Fin n) (f : Fin n → EReal) : ∑ i, (if i = k then (1 : EReal) else 0) * f i = f k := by
  simp only [ite_mul, one_mul, zero_mul, Finset.sum_ite_eq', Finset.mem_univ, if_true]

/-- The same with the condition the other way round. -/
theorem sum_sel' {n : ℕ} (k : Fin n) (f : Fin n → EReal) : ∑ i, (if k = i then (1 : EReal) else 0) * f i = f k := by
  simp only [ite_mul, one_mul, zero_mul, Finset.sum_ite_eq, Finset.mem_univ, if_true]

/-- A small number's word converted to a float and back. -/
theorem round_trip : ∀ n : Fin 32, FloatOps.fptosi (F := Ideal) 32 (φ := .f32) (FloatOps.sitofp .f32 (BitVec.ofNat 32 n)) = BitVec.ofNat 32 n := by
  intro n
  show Ideal.fptosi 32 ((((BitVec.ofNat 32 n).toInt : ℤ) : ℝ) : EReal) = _
  have h : (BitVec.ofNat 32 n).toInt = n := by revert n; decide +kernel
  rw [h]
  rw [Ideal.fptosi, Ideal.toIntClamped_coe]
  clear h
  simp
  revert n
  decide +kernel

/-- The selector of each edge's source: the table row of the sample's node that the edge names. -/
theorem pay31_at (idx : IVec S64x32 32) (s : IVec S4160x1 32) (node : Fin 32 → Fin 32) (r : Fin 64) (e : Fin 65) (j i : Fin 32)
    (hidx : ∀ i, idx (ix2 r i) = BitVec.ofNat 32 (node i)) (hs : s (ix2 (edge r e) 0) = BitVec.ofNat 32 j) :
    k0_pay31 (F := Ideal) k0_pay26 idx s (ix2 (edge r e) i) = if i = node j then (1 : EReal) else 0 := by
  pointwise [k0_pay31]
  simp only [bit_val, pay26_at, hs, sum_sel', hidx, ofNat_inj (Nat.lt_trans (Fin.isLt _) (by norm_num : 32 < 4294967296)) (Nat.lt_trans (Fin.isLt _) (by norm_num : 32 < 4294967296)), ← Fin.ext_iff, sum_sel, round_trip]

end Cert.Value
end
-- ==== Proof.Value.KernelGraph.lean ====
module
public import proofs.«01_k».proof.Proof.Value.FrontBits
public import proofs.«01_k».proof.Proof.KernelIdeal.BodyFirst
@[expose] public section
set_option maxRecDepth 16384

/-! # The kernel's graph attention

The first point's body, up to the recurrent layers' inputs, computes the graph attention of every sample's first node. -/

noncomputable section
namespace Cert.Value
open Idealize.ShloMosaic
open Cert.KernelIdeal Cert.KernelIdeal.Gen Cert.KernelIdeal.Hand

/-- The buffers that the body reads hold a graph's data. -/
structure FrontData (g : Graph) (X2 : IVec S64x32 32) (X3 X4 : IVec S4160x1 32) (X5 : FVec Ideal S32x256 .f32) (X6 : FVec Ideal S256x256 .f32)
    (X7 X8 X9 : FVec Ideal S1x256 .f32) : Prop where
  idx : ∀ r i, X2 (ix2 r i) = BitVec.ofNat 32 (g.node r i)
  src : ∀ r e, X3 (ix2 (edge r e) 0) = BitVec.ofNat 32 (g.src r e)
  into : ∀ r e, X4 (ix2 (edge r e) 0) = 0#32 ↔ g.into r e = true
  x : ∀ i k, X5 (ix2 i k) = g.X i k
  w : ∀ d k, X6 (ix2 d k) = g.W d k
  aS : ∀ h c, X7 (ix2 0 (Graph.col h c)) = g.aS h c
  aD : ∀ h c, X8 (ix2 0 (Graph.col h c)) = g.aD h c
  b : ∀ k, X9 (ix2 0 k) = g.b k

variable {g : Graph} {X2 : IVec S64x32 32} {X3 X4 : IVec S4160x1 32} {X5 : FVec Ideal S32x256 .f32} {X6 : FVec Ideal S256x256 .f32}
  {X7 X8 X9 : FVec Ideal S1x256 .f32}

/-- A sum over the 256 columns, head by head. -/
theorem sum_cols (f : Fin 256 → EReal) : ∑ k, f k = ∑ h, ∑ c, f (Graph.col h c) := Fin.sum_univ_tiles 8 32 rfl f

/-- Column `c` of head `h` is of head `h`. -/
theorem head_col (h : Fin 8) (c : Fin 32) : Graph.head (Graph.col h c) = h := by
  ext; simp only [Graph.head, Graph.col]; omega

/-- A sum over the columns against a head's selector is the sum over the head's columns. -/
theorem sum_head (h : Fin 8) (f : Fin 256 → EReal) :
    ∑ k, f k * (if Graph.head k = h then (1 : EReal) else 0) = ∑ c, f (Graph.col h c) := by
  rw [sum_cols]
  simp only [head_col, mul_ite, mul_one, mul_zero]
  rw [Finset.sum_eq_single h]
  · simp
  · intro b _ hb; simp [hb]
  · simp

/-- A sum over all the edges against a sample's selector is the sum over the sample's edges. -/
theorem sum_rows (r : Fin 64) (f : Fin 64 → Fin 65 → EReal) :
    ∑ x, ∑ e, (if x = r then (1 : EReal) else 0) * f x e = ∑ e, f r e := by
  rw [Finset.sum_eq_single r]
  · simp
  · intro b _ hb; simp [hb]
  · simp

/-- A fold of the maximum from the least value is the supremum. -/
theorem fold_max {ι : Type*} (s : Finset ι) (f : ι → EReal) : Finset.fold max (Ideal.ofBits .f32 0xFF800000#32) f s = s.sup f := by
  rw [word_bot]; rfl

/-- The supremum over all the edges, sample by sample. -/
theorem sup_edges (f : Fin 4160 → EReal) :
    Finset.univ.sup f = Finset.univ.sup fun p : Fin 64 × Fin 65 => f (edge p.1 p.2) := by
  apply le_antisymm
  · refine Finset.sup_le fun k _ => ?_
    have hk : k = edge ⟨k.val / 65, by omega⟩ ⟨k.val % 65, by omega⟩ := by
      ext; simp only [edge]; omega
    rw [hk]
    exact Finset.le_sup (f := fun p : Fin 64 × Fin 65 => f (edge p.1 p.2)) (b := (⟨k.val / 65, by omega⟩, ⟨k.val % 65, by omega⟩)) (Finset.mem_univ _)
  · exact Finset.sup_le fun p _ => Finset.le_sup (f := f) (Finset.mem_univ _)

/-- The named constant is the greatest value. -/
theorem far_top : (Named.named (F := Ideal) κ "far" 0x7149F2CA#32 : Ideal .f32) = (⊤ : EReal) := rfl

/-- An edge's score where it ends in node 0, and the least value elsewhere. -/
theorem select_far (b : Prop) [Decidable b] (x : EReal) :
    x * (if b then (1 : EReal) else 0) + ((if b then (1 : EReal) else 0) - 1) * ⊤ = if b then x else ⊥ := by
  by_cases hb : b
  · simp only [hb, if_true, mul_one]
    have : (1 : EReal) - 1 = 0 := by
      show ((1 : ℝ) : EReal) - ((1 : ℝ) : EReal) = 0
      rw [← EReal.coe_sub, sub_self, EReal.coe_zero]
    rw [this, zero_mul, add_zero]
  · simp only [hb, if_false, mul_zero, zero_add, zero_sub]
    exact EReal.coe_mul_top_of_neg (x := -1) (by norm_num)

namespace FrontData
variable (D : FrontData g X2 X3 X4 X5 X6 X7 X8 X9)
include D

/-- The projected table. -/
theorem xw_at (i : Fin 32) (k : Fin 256) : k0_pay21 (F := Ideal) X5 X6 (ix2 i k) = g.xw i k := by
  pointwise [k0_pay21, k0_pay20]
  simp only [D.x, D.w]
  rfl

/-- The sources' scores of the table rows. -/
theorem asrc_at (i : Fin 32) (h : Fin 8) : k0_pay23 (F := Ideal) X5 X6 X7 (ix2 i h) = g.att g.aS i h := by
  pointwise [k0_pay23]
  simp only [pay22_at, sum_head, D.xw_at, D.aS]
  rfl

/-- The targets' scores of the table rows. -/
theorem adst_at (i : Fin 32) (h : Fin 8) :
    k0_pay25 (F := Ideal) k0_pay22 (k0_pay24 X5 X6 X8) (constant S32x8 .f32 0x00000000#32) (ix2 i h) = g.att g.aD i h := by
  pointwise [k0_pay25, k0_pay24]
  simp only [pay22_at, sum_head, D.xw_at, D.aD]
  rfl

/-- The rectified edge scores. -/
theorem leaky_at (A B : FVec Ideal S32x8 .f32) (hA : ∀ i h, A (ix2 i h) = g.att g.aS i h) (hB : ∀ i h, B (ix2 i h) = g.att g.aD i h)
    (n : IVec S64x1 32) (hn : ∀ r, n (ix2 r 0) = BitVec.ofNat 32 (g.node r 0)) (r : Fin 64) (e : Fin 65) (h : Fin 8) :
    k0_pay33 (F := Ideal) A B k0_pay26 X2 X3 n (ix2 (edge r e) h) = g.leaky r e h := by
  pointwise [k0_pay33]
  have h1 : ∀ i, k0_pay31 (F := Ideal) k0_pay26 X2 X3 (ix2 (edge r e) i) = if i = g.node r (g.src r e) then (1 : EReal) else 0 :=
    fun i => pay31_at X2 X3 (g.node r) r e (g.src r e) i (D.idx r) (D.src r e)
  have h2 : ∀ r' i, k0_pay32 (F := Ideal) n (ix2 r' i) = if i = g.node r' 0 then (1 : EReal) else 0 :=
    fun r' i => pay32_at n r' i _ (hn r')
  simp only [h1, h2, pay26_at, sum_sel, sum_sel', hA, hB]
  rfl

/-- The edges' shares. -/
theorem alpha_at (s : FVec Ideal S4160x8 .f32) (hs : ∀ r e h, s (ix2 (edge r e) h) = g.leaky r e h) (r : Fin 64) (e : Fin 65) (h : Fin 8) :
    k0_pay34 (F := Ideal) k0_pay26 toht s X4 (ix2 (edge r e) h) = g.alpha r e h := by
  pointwise [k0_pay34]
  generalize hT : Finset.fold max (Ideal.ofBits FTy.f32 0xFF800000#32) _ (Finset.univ : Finset (Fin 4160)) = T
  have e : T = g.top h := by
    rw [← hT]
    refine (fold_max _ _).trans ((sup_edges _).trans (Finset.sup_congr rfl fun p _ => ?_))
    rw [bit_val, hs]
    refine (select_far _ _).trans (if_congr (D.into _ _) rfl rfl)
  clear hT
  subst e
  simp only [bit_val, sum_edges, pay26_at, toht_at, sum_sel', sum_rows, hs, D.into]
  simp only [mul_ite, mul_one, mul_zero]
  rfl

/-- The recurrent layers' inputs, multiplied by the first layer's input weights. -/
theorem iw_at (v131 : FVec Ideal S4160x32 .f32) (v139 : FVec Ideal S64x32 .f32) (A : FVec Ideal S4160x8 .f32) (X10 : FVec Ideal S512x768 .f32)
    (h1 : ∀ r e i, v131 (ix2 (edge r e) i) = if i = g.node r (g.src r e) then (1 : EReal) else 0)
    (h2 : ∀ r i, v139 (ix2 r i) = if i = g.node r 0 then (1 : EReal) else 0)
    (hA : ∀ r e h, A (ix2 (edge r e) h) = g.alpha r e h) (r : Fin 64) (j : Fin 768) :
    k0_pay39 (F := Ideal) (k0_pay20 X5) (k0_pay21 X5 X6) toht v131 v139 A k0_pay35 k0_pay36 k0_pay37 k0_pay38 X9 X10 (ix2 r j)
      = ∑ k, g.input r k * X10 (ix2 k j) := by
  pointwise [k0_pay39, k0_pay35, k0_pay36, k0_pay37, k0_pay38, k0_pay20]
  rw [Fin.sum_univ_two_halves 256 256 rfl]
  refine congrArg₂ (· + ·) (Finset.sum_congr rfl fun k _ => congrArg (· * _) ?_) (Finset.sum_congr rfl fun k _ => congrArg (· * _) ?_)
  · simp only [h2, sum_sel, D.x]
    unfold Graph.input
    rw [dif_pos (show k.val < 256 from k.isLt)]
  · have hi : g.input r ⟨256 + k.val, by omega⟩ = g.gat r k := by
      unfold Graph.input
      rw [dif_neg (by simp)]
      exact congrArg _ (Fin.ext (by simp))
    refine Eq.trans ?_ hi.symm
    have hb : ∀ (k : Fin 256) (h : Fin 8), (FloatOps.sitofp .f32 (BitVec.setWidth 32 (IntOp.cmpi .eq
        (floorDiv (BitVec.ofNat 32 k) 32#32) (BitVec.ofNat 32 h))) : Ideal .f32) = if Graph.head k = h then (1 : EReal) else 0 :=
      fun k h => (bit_val _ _).trans (if_congr (col_head k h) rfl rfl)
    unfold floorDiv at hb
    have hs : ∀ r e, (∑ h : Fin 8, A (ix2 (edge r e) h) * (if Graph.head k = h then (1 : EReal) else 0) : EReal) = g.alpha r e (Graph.head k) :=
      fun r e => by simp only [hA, mul_ite, mul_one, mul_zero, Finset.sum_ite_eq, Finset.mem_univ, if_true]
    simp only [sum_edges, toht_at, h1, sum_sel, D.xw_at, D.b, hb, sum_rows, hs]
    rfl
/-- The rows that the body stores before the recurrent loop. -/
theorem rows_at (X10 : FVec Ideal S512x768 .f32) (r : Fin 64) (j : Fin 768) :
    iwVal (F := Ideal) X2 X3 X4 X5 X6 X7 X8 X9 X10 (ix2 r j) = ∑ k, g.input r k * X10 (ix2 k j) := by
  have hn : ∀ r : Fin 64, (View.ld X2 (Rect.unit (s := S64x32) ![0, 0] S64x1.size inb_S64x32_S64x1_0_0) : Vec Ideal S64x1 .i32) (ix2 r 0) = BitVec.ofNat 32 (g.node r 0) := by
    intro r
    rw [← D.idx r 0]
    refine congrArg X2 (funext fun a => ?_)
    fin_cases a <;> ext <;> simp
  unfold iwVal
  refine D.iw_at _ _ _ X10 (fun r e i => pay31_at X2 X3 (g.node r) r e (g.src r e) i (D.idx r) (D.src r e))
    (fun r i => pay32_at _ r i _ (hn r)) (D.alpha_at _ (D.leaky_at _ _ D.asrc_at D.adst_at _ hn)) r j

end FrontData
end Cert.Value
end
-- ==== Proof.Value.RefStages.lean ====
module

public import proofs.«01_k».proof.Proof.Value.RefEdges
public import proofs.«01_k».proof.Proof.Value.KernelGraph

@[expose] public section
set_option maxRecDepth 16384

/-! # The reference's attention, operation by operation

The host operations that follow the edges' scores: the leaky rectifier, the restriction to the edges into node 0, the
softmax and the weighted sum — each read at an index from the contents before it. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph)

/-! ## The two constants -/

/-- The slope's word is a real number between zero and one. -/
theorem slope_real : ∃ s : ℝ, 0 < s ∧ s < 1 ∧ Graph.slope = (s : EReal) := by
  refine ⟨13421773 * (2 : ℝ) ^ (-26 : Int), by positivity, by norm_num, ?_⟩
  simp [Graph.slope, Ideal.ofBits, Ideal.ieee, -EReal.coe_mul]

/-- The guard's word is a positive real number. -/
theorem guard_real : ∃ s : ℝ, 0 < s ∧ Graph.guard = (s : EReal) := by
  refine ⟨15111573 * (2 : ℝ) ^ (-77 : Int), by positivity, ?_⟩
  simp [Graph.guard, Ideal.ofBits, Ideal.ieee, -EReal.coe_mul]

/-- Choosing between a value and its multiple by its sign takes the larger of the two. -/
theorem leaky_max (x : EReal) :
    Scalar.select (Ideal.cmp .oge x 0) x (Graph.slope * x) = max x (Graph.slope * x) := by
  obtain ⟨s, h0, h1, hs⟩ := slope_real
  rw [hs]
  by_cases h : (0 : EReal) ≤ x
  · have hc : Ideal.cmp .oge x 0 = 1#1 := by simp [Ideal.cmp, h]
    rw [hc]
    refine (max_eq_left ?_).symm
    induction x using EReal.rec with
    | bot => exact absurd h (by simp)
    | top => exact le_top
    | coe x =>
      have hx : 0 ≤ x := EReal.coe_nonneg.1 h
      rw [← EReal.coe_mul]
      exact EReal.coe_le_coe_iff.2 (by nlinarith)
  · have hc : Ideal.cmp .oge x 0 = 0#1 := by simp [Ideal.cmp, h]
    rw [hc]
    refine (max_eq_right ?_).symm
    induction x using EReal.rec with
    | bot => exact bot_le
    | top => exact absurd le_top h
    | coe x =>
      have hx : x < 0 := not_le.1 fun hx => h (EReal.coe_nonneg.2 hx)
      rw [← EReal.coe_mul]
      exact EReal.coe_le_coe_iff.2 (by nlinarith)

variable (V : Valuation τ sig (Elt Ideal))

/-- An array of edge scores, typed. -/
abbrev vals (b : FVec Ideal S64x96x8 .f32) : FVec Ideal S64x96x8 .f32 := b

/-- The rectified scores. -/
theorem stage1 : (StableHlo.after hostOps0_1 V (Proc.devRef .tc main_v63) : FVec Ideal S64x96x8 .f32)
    = select (cmpf .oge (vals (V (Proc.devRef .tc main_v62)))
        (broadcastInDim S64x96x8 ![] bcast_S_S64x96x8 (constant S_ .f32 0x00000000#32)))
      (vals (V (Proc.devRef .tc main_v62)))
      (mulf (broadcastInDim S64x96x8 ![] bcast_S_S64x96x8 (V (Proc.devRef .tc main_cst_9) : FVec Ideal S_ .f32))
        (vals (V (Proc.devRef .tc main_v62)))) := by
  after_reads_simp
  rfl

/-- Which edges end in node 0. -/
theorem stage2 (r : Fin 64) (e : Fin 96) :
    (StableHlo.after hostOps0_2 V (Proc.devRef .tc main_v66) : IVec S64x96x1 1) (ix3 r e (0 : Fin 1))
      = IntOp.cmpi .eq ((V (Proc.devRef .tc main_v31) : IVec S64x96 32) (ix2 r e)) 0#32 := by
  after_reads_simp
  pointwise

/-- The scores of the edges into node 0, and the bottom elsewhere. -/
theorem stage3 : (StableHlo.after hostOps0_3 V (Proc.devRef .tc main_v67) : FVec Ideal S64x96x8 .f32)
    = select (broadcastInDim S64x96x8 ![0, 1, 2] bcast_S64x96x1_S64x96x8_0_1_2 (V (Proc.devRef .tc main_v66) : IVec S64x96x1 1))
      (V (Proc.devRef .tc main_v63) : FVec Ideal S64x96x8 .f32)
      (broadcastInDim S64x96x8 ![] bcast_S_S64x96x8 (V (Proc.devRef .tc main_cst_11) : FVec Ideal S_ .f32)) := by
  after_reads_simp
  rfl

/-- An index of the 64 × 96 × 8 array maps to its last coordinate. -/
theorem drop_ix3 (i : S64x96x8.Idx) : reducesTo_S64x96x8_S8_d0_1.drop i = ix1 (i 2) := by
  funext a
  match a with
  | ⟨0, _⟩ => rfl

/-- Every index is one of three coordinates. -/
theorem eq_ix3 (i : S64x96x8.Idx) : i = ix3 (i 0) (i 1) (i 2) := by
  funext a
  match a with
  | ⟨0, _⟩ => rfl
  | ⟨1, _⟩ => rfl
  | ⟨2, _⟩ => rfl

/-- The largest entry over the samples and the edges, per head. -/
theorem fold_sup (f : S64x96x8.Idx → EReal) (h : Fin 8) :
    Finset.fold max (Ideal.ofBits .f32 0xFF800000#32) f {i | reducesTo_S64x96x8_S8_d0_1.drop i = ix1 h}
      = Finset.univ.sup fun p : Fin 64 × Fin 96 => f (ix3 p.1 p.2 h) := by
  rw [Cert.Value.fold_max]
  apply le_antisymm
  · refine Finset.sup_le fun i hi => ?_
    have hi' := (Finset.mem_filter.1 hi).2
    have h2 : i 2 = h := congrFun ((drop_ix3 i).symm.trans hi') 0
    rw [eq_ix3 i, h2]
    exact Finset.le_sup (f := fun p : Fin 64 × Fin 96 => f (ix3 p.1 p.2 h)) (Finset.mem_univ ((i 0, i 1) : Fin 64 × Fin 96))
  · refine Finset.sup_le fun p _ => ?_
    exact Finset.le_sup (f := f) (Finset.mem_filter.2 ⟨Finset.mem_univ _, drop_ix3 _⟩)

/-- The exponentials. -/
theorem stage4 (r : Fin 64) (e : Fin 96) (h : Fin 8) :
    (StableHlo.after hostOps0_4 V (Proc.devRef .tc main_v72) : FVec Ideal S64x96x8 .f32) (ix3 r e h)
      = Ideal.exp (vals (V (Proc.devRef .tc main_v63)) (ix3 r e h)
        - Finset.univ.sup fun p : Fin 64 × Fin 96 => vals (V (Proc.devRef .tc main_v67)) (ix3 p.1 p.2 h)) := by
  rw [← fold_sup]
  after_reads_simp
  pointwise

/-- The weights: zero off the edges into node 0. -/
theorem stage5 : (StableHlo.after hostOps0_5 V (Proc.devRef .tc main_v73) : FVec Ideal S64x96x8 .f32)
    = select (broadcastInDim S64x96x8 ![0, 1, 2] bcast_S64x96x1_S64x96x8_0_1_2 (V (Proc.devRef .tc main_v66) : IVec S64x96x1 1))
      (V (Proc.devRef .tc main_v72) : FVec Ideal S64x96x8 .f32)
      (broadcastInDim S64x96x8 ![] bcast_S_S64x96x8 (V (Proc.devRef .tc main_cst_13) : FVec Ideal S_ .f32)) := by
  after_reads_simp
  rfl

/-- The rows of the edges' sources, once more. -/
theorem stage6_index (r : Fin 64) (e : Fin 96) :
    (StableHlo.after hostOps0_6 V (Proc.devRef .tc main_v87) : IVec S64x96x1 32) (ix3 r e (0 : Fin 1))
      = Scalar.select (IntOp.cmpi .slt (IntOp.addi ((V (Proc.devRef .tc main_v35) : IVec S64x1 32) (ix2 r (0 : Fin 1)))
          ((V (Proc.devRef .tc main_v28) : IVec S64x96 32) (ix2 r e))) 0#32)
        (IntOp.addi (IntOp.addi ((V (Proc.devRef .tc main_v35) : IVec S64x1 32) (ix2 r (0 : Fin 1)))
          ((V (Proc.devRef .tc main_v28) : IVec S64x96 32) (ix2 r e))) 2048#32)
        (IntOp.addi ((V (Proc.devRef .tc main_v35) : IVec S64x1 32) (ix2 r (0 : Fin 1)))
          ((V (Proc.devRef .tc main_v28) : IVec S64x96 32) (ix2 r e))) := by
  after_reads_simp
  pointwise

/-- The sources' projected rows. -/
theorem stage6_rows : (StableHlo.after hostOps0_6 V (Proc.devRef .tc main_v88) : FVec Ideal S64x96x8x32 .f32)
    = Host.gather gather_S2048x8x32_S64x96x1_S64x96x8x32_23_0_n_n_0_2_1832 (V (Proc.devRef .tc main_v22) : FVec Ideal S2048x8x32 .f32)
      (StableHlo.after hostOps0_6 V (Proc.devRef .tc main_v87) : IVec S64x96x1 32) := by
  after_reads_simp

/-- An array of edge rows, typed. -/
abbrev rowsOf (b : FVec Ideal S64x96x8x32 .f32) : FVec Ideal S64x96x8x32 .f32 := b

/-- The attention layer's output. -/
theorem stage6_out (r : Fin 64) (k : Fin 256) :
    (StableHlo.after hostOps0_6 V (Proc.devRef .tc main_v96) : FVec Ideal S64x256 .f32) (ix2 r k)
      = (∑ e : Fin 96, rowsOf (StableHlo.after hostOps0_6 V (Proc.devRef .tc main_v88))
            (ix4 r e (Graph.head k) ⟨k.val % 32, by omega⟩)
          * Ideal.div (vals (V (Proc.devRef .tc main_v73)) (ix3 r e (Graph.head k)))
              ((∑ d : Fin 96, vals (V (Proc.devRef .tc main_v73)) (ix3 r d (Graph.head k))) + Graph.guard))
        + (args V).bgat (ix1 k) := by
  simp only [rowsOf, vals, args]
  after_reads_simp
  pointwise
  rfl

/-- The recurrent layers' inputs: the first node's row, then the attention layer's output. -/
theorem stage6_inputs (r : Fin 64) (k : Fin 512) :
    (StableHlo.after hostOps0_6 V (Proc.devRef .tc main_v100_0) : FVec Ideal S64x512 .f32) (ix2 r k)
      = if h : k.val < 256 then (V (Proc.devRef .tc main_v20) : FVec Ideal S64x256 .f32) (ix2 r ⟨k.val, h⟩)
        else (StableHlo.after hostOps0_6 V (Proc.devRef .tc main_v96) : FVec Ideal S64x256 .f32) (ix2 r ⟨k.val - 256, by omega⟩) := by
  after_reads_simp
  simp only [id_eq]
  pointwise
  after_reads_simp
  pointwise

end Cert.RefValue

end
-- ==== Proof.Value.RefGraph.lean ====
module

public import proofs.«01_k».proof.Proof.Value.RefStages

@[expose] public section
set_option maxRecDepth 16384

/-! # The reference's attention layer

The reference's contents before its loop, and the loop's inputs read off them: each is the graph layer's input. The
reference keeps 32 loops per sample where the layer keeps node 0's alone; the other 31 do not end in node 0, so they weigh
nothing. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph)

/-! ## 96 edges against 65 -/

section Edges
variable (A : Arrays)

/-- An edge of the layer among the reference's 96. -/
def edgeOf (e : Fin 65) : Fin 96 := ⟨e.val, by omega⟩

/-- The target of a sample's own edge. -/
theorem dst_own (r : Fin 64) (e : Fin 96) (h : e.val < 64) : dstOf A r e = Arrays.small (A.word r ⟨96 + e.val, by omega⟩) :=
  dif_pos h

/-- The target of a loop. -/
theorem dst_loop (r : Fin 64) (e : Fin 96) (h : ¬ e.val < 64) : dstOf A r e = ⟨e.val - 64, by omega⟩ := dif_neg h

/-- Its source. -/
theorem src_edge (r : Fin 64) (e : Fin 65) : srcOf A r (edgeOf e) = A.graph.src r e := by
  by_cases h : e.val < 64
  · rw [show srcOf A r (edgeOf e) = Arrays.small (A.word r ⟨32 + e.val, by omega⟩) from dif_pos h,
      show A.graph.src r e = Arrays.small (A.word r ⟨32 + e.val, by omega⟩) from dif_pos h]
  · rw [show srcOf A r (edgeOf e) = ⟨e.val - 64, by omega⟩ from dif_neg h, show A.graph.src r e = 0 from dif_neg h]
    exact Fin.ext (by show e.val - 64 = 0; omega)

variable {A} (hA : A.Ok)

include hA in
/-- Whether it ends in node 0. -/
theorem into_edge (r : Fin 64) (e : Fin 65) : A.graph.into r e = true ↔ dstOf A r (edgeOf e) = 0 := by
  by_cases h : e.val < 64
  · rw [dst_own A r (edgeOf e) h, show A.graph.into r e = decide (A.word r ⟨96 + e.val, by omega⟩ = 0#32) from dif_pos h,
      decide_eq_true_iff]
    have hw := hA.words r ⟨96 + e.val, by omega⟩
    constructor
    · intro h0
      exact Fin.ext (by show (A.word r ⟨96 + e.val, _⟩).toNat % 32 = 0; rw [h0]; rfl)
    · intro h0
      have h1 : (A.word r ⟨96 + e.val, by omega⟩).toNat % 32 = 0 := congrArg Fin.val h0
      exact BitVec.eq_of_toNat_eq (by show _ = 0; omega)
  · rw [dst_loop A r (edgeOf e) h, show A.graph.into r e = true from dif_neg h]
    exact ⟨fun _ => Fin.ext (by show e.val - 64 = 0; omega), fun _ => rfl⟩

/-- The other 31 loops do not end in node 0. -/
theorem loop_off (r : Fin 64) (e : Fin 96) (h : ¬ e.val < 65) : dstOf A r e ≠ 0 := by
  intro h0
  rw [dst_loop A r e (by omega)] at h0
  have h2 : e.val - 64 = 0 := congrArg Fin.val h0
  omega

/-- A sum over the 96 edges of which the last 31 add nothing. -/
theorem sum_edges96 (f : Fin 96 → EReal) (h : ∀ e : Fin 96, ¬ e.val < 65 → f e = 0) : ∑ e, f e = ∑ e : Fin 65, f (edgeOf e) := by
  refine (Fin.sum_univ_add (a := 65) (b := 31) f).trans ?_
  rw [Finset.sum_eq_zero (s := (Finset.univ : Finset (Fin 31))) fun e _ => h _ (by show ¬ 65 + e.val < 65; omega), add_zero]
  rfl

end Edges

/-! ## Between the edges' scores and the loop -/

variable (W : Valuation τ sig (Elt Ideal))

/-- An array of edge words, typed. -/
abbrev wordsOf (b : IVec S64x96 32) : IVec S64x96 32 := b

/-- Rectifying takes the larger of a score and its multiple. -/
theorem rectified (hc : (W (Proc.devRef .tc main_cst_9) : FVec Ideal S_ .f32) = (constant S_ .f32 0x3E4CCCCD#32 : FVec Ideal S_ .f32))
    (r : Fin 64) (e : Fin 96) (h : Fin 8) :
    vals (StableHlo.after hostOps0_1 W (Proc.devRef .tc main_v63)) (ix3 r e h)
      = max (vals (W (Proc.devRef .tc main_v62)) (ix3 r e h)) (Graph.slope * vals (W (Proc.devRef .tc main_v62)) (ix3 r e h)) := by
  refine (congrFun (stage1 W) _).trans ?_
  rw [hc]
  refine Eq.trans ?_ (leaky_max _)
  show Scalar.select (Ideal.cmp .oge _ (Ideal.ofBits .f32 0x00000000#32)) _ _ = _
  rw [Ideal.ofBits_zero_f32]
  rfl

/-- Choosing by a comparison of words. -/
theorem select_eq (x y : BitVec 32) (a b : EReal) : Scalar.select (IntOp.cmpi .eq x y) a b = if x = y then a else b := by
  by_cases h : x = y
  · subst h
    rw [if_pos rfl, show IntOp.cmpi .eq x x = 1#1 by simp [WordCmp.cmpi_eq_eq]]
    rfl
  · rw [if_neg h, show IntOp.cmpi .eq x y = 0#1 by simp [WordCmp.cmpi_eq_eq, h]]
    rfl

/-- The contents after the scores are restricted to the edges into node 0. -/
def masked : Valuation τ sig (Elt Ideal) := StableHlo.after hostOps0_3 (StableHlo.after hostOps0_2 W)

/-- The restriction leaves the rectified scores in place. -/
theorem masked_scores : vals (masked W (Proc.devRef .tc main_v63)) = vals (W (Proc.devRef .tc main_v63)) := by
  unfold masked
  after_reads_simp

/-- The comparison it keeps. -/
theorem masked_flags (r : Fin 64) (e : Fin 96) :
    (masked W (Proc.devRef .tc main_v66) : IVec S64x96x1 1) (ix3 r e (0 : Fin 1))
      = IntOp.cmpi .eq (wordsOf (W (Proc.devRef .tc main_v31)) (ix2 r e)) 0#32 := by
  unfold masked
  after_reads_simp
  pointwise

/-- The restricted scores. -/
theorem masked_at (r : Fin 64) (e : Fin 96) (h : Fin 8) :
    vals (masked W (Proc.devRef .tc main_v67)) (ix3 r e h)
      = if wordsOf (W (Proc.devRef .tc main_v31)) (ix2 r e) = 0#32 then vals (W (Proc.devRef .tc main_v63)) (ix3 r e h) else ⊥ := by
  refine (congrFun (stage3 (StableHlo.after hostOps0_2 W)) _).trans ?_
  have h1 : (StableHlo.after hostOps0_2 W (Proc.devRef .tc main_cst_11) : FVec Ideal S_ .f32) = (constant S_ .f32 0xFF800000#32 : FVec Ideal S_ .f32) := by
    after_reads_simp
  have h2 : vals (StableHlo.after hostOps0_2 W (Proc.devRef .tc main_v63)) = vals (W (Proc.devRef .tc main_v63)) := by
    after_reads_simp
  rw [h1, show (StableHlo.after hostOps0_2 W (Proc.devRef .tc main_v63) : FVec Ideal S64x96x8 .f32) = _ from h2, ← select_eq, ← stage2,
    ← Cert.Value.word_bot]
  generalize (StableHlo.after hostOps0_2 W (Proc.devRef .tc main_v66) : IVec S64x96x1 1) = M
  pointwise

/-- The contents after the weights. -/
def weighed : Valuation τ sig (Elt Ideal) := StableHlo.after hostOps0_5 (StableHlo.after hostOps0_4 W)

/-- The weights. -/
theorem weighed_at (r : Fin 64) (e : Fin 96) (h : Fin 8) :
    vals (weighed W (Proc.devRef .tc main_v73)) (ix3 r e h)
      = Scalar.select ((W (Proc.devRef .tc main_v66) : IVec S64x96x1 1) (ix3 r e (0 : Fin 1)))
          (Ideal.exp (vals (W (Proc.devRef .tc main_v63)) (ix3 r e h)
            - Finset.univ.sup fun p : Fin 64 × Fin 96 => vals (W (Proc.devRef .tc main_v67)) (ix3 p.1 p.2 h))) 0 := by
  refine (congrFun (stage5 (StableHlo.after hostOps0_4 W)) _).trans ?_
  have h1 : (StableHlo.after hostOps0_4 W (Proc.devRef .tc main_cst_13) : FVec Ideal S_ .f32) = (constant S_ .f32 0x00000000#32 : FVec Ideal S_ .f32) := by
    after_reads_simp
  have h2 : (StableHlo.after hostOps0_4 W (Proc.devRef .tc main_v66) : IVec S64x96x1 1) = W (Proc.devRef .tc main_v66) := by
    after_reads_simp
  rw [h1, h2, ← stage4]
  generalize (StableHlo.after hostOps0_4 W (Proc.devRef .tc main_v72) : FVec Ideal S64x96x8 .f32) = E
  pointwise

/-- The weights from the rectified scores and the targets. -/
theorem weights_at (r : Fin 64) (e : Fin 96) (h : Fin 8) :
    vals (weighed (masked W) (Proc.devRef .tc main_v73)) (ix3 r e h)
      = if wordsOf (W (Proc.devRef .tc main_v31)) (ix2 r e) = 0#32 then
          Ideal.exp (vals (W (Proc.devRef .tc main_v63)) (ix3 r e h)
            - Finset.univ.sup fun p : Fin 64 × Fin 96 =>
                if wordsOf (W (Proc.devRef .tc main_v31)) (ix2 p.1 p.2) = 0#32 then vals (W (Proc.devRef .tc main_v63)) (ix3 p.1 p.2 h) else ⊥)
        else 0 := by
  rw [weighed_at, masked_flags, masked_scores, select_eq]
  rw [Finset.sup_congr rfl fun (p : Fin 64 × Fin 96) _ => masked_at W p.1 p.2 h]

end Cert.RefValue
end
-- ==== Proof.Value.RefInput.lean ====
module

public import proofs.«01_k».proof.Proof.Value.RefGraph

@[expose] public section
set_option maxRecDepth 16384

/-! # The reference's loop inputs

Each input of the reference's loop is the graph layer's: the first node's row, and the attention layer's output. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph)

/-! ## What the later operations leave in place -/

/-- Two contents that agree on what the attention layer still reads after the edges' scores. -/
structure Same (V W : Valuation τ sig (Elt Ideal)) : Prop where
  first : (W (Proc.devRef .tc main_v20) : FVec Ideal S64x256 .f32) = V (Proc.devRef .tc main_v20)
  rows : (W (Proc.devRef .tc main_v22) : FVec Ideal S2048x8x32 .f32) = V (Proc.devRef .tc main_v22)
  src : (W (Proc.devRef .tc main_v28) : IVec S64x96 32) = V (Proc.devRef .tc main_v28)
  dst : (W (Proc.devRef .tc main_v31) : IVec S64x96 32) = V (Proc.devRef .tc main_v31)
  off : (W (Proc.devRef .tc main_v35) : IVec S64x1 32) = V (Proc.devRef .tc main_v35)
  bias : (W (Proc.devRef .tc main_arg5) : FVec Ideal S256 .f32) = V (Proc.devRef .tc main_arg5)

/-- Agreement passes through a third. -/
theorem Same.trans {U V W : Valuation τ sig (Elt Ideal)} (h : Same U V) (h' : Same V W) : Same U W :=
  ⟨h'.first.trans h.first, h'.rows.trans h.rows, h'.src.trans h.src, h'.dst.trans h.dst, h'.off.trans h.off, h'.bias.trans h.bias⟩

/-- The rectifier keeps them. -/
theorem same_rectified (V : Valuation τ sig (Elt Ideal)) : Same V (StableHlo.after hostOps0_1 V) := by
  constructor <;> after_reads_simp

/-- The restriction keeps them. -/
theorem same_masked (V : Valuation τ sig (Elt Ideal)) : Same V (masked V) := by
  unfold masked
  constructor <;> after_reads_simp

/-- The weights keep them. -/
theorem same_weighed (V : Valuation τ sig (Elt Ideal)) : Same V (weighed V) := by
  unfold weighed
  constructor <;> after_reads_simp

/-! ## The contents before the loop -/

variable (V : Valuation τ sig (Elt Ideal))

/-- After the rectifier. -/
def scored : Valuation τ sig (Elt Ideal) := StableHlo.after hostOps0_1 (StableHlo.after hostOps0 V)

/-- After the weights. -/
def shared : Valuation τ sig (Elt Ideal) := weighed (masked (scored V))

/-- What the attention layer still reads is as the first operations left it. -/
theorem same_shared : Same (StableHlo.after hostOps0 V) (shared V) :=
  ((same_rectified _).trans (same_masked _)).trans (same_weighed _)

variable {V} (hA : (args V).Ok)

include hA

/-- Whether the reference counts an edge as one into node 0. -/
theorem dst_zero (r : Fin 64) (e : Fin 96) :
    wordsOf (scored V (Proc.devRef .tc main_v31)) (ix2 r e) = 0#32 ↔ dstOf (args V) r e = 0 := by
  rw [show wordsOf (scored V (Proc.devRef .tc main_v31)) = dstWords V from (same_rectified _).dst]
  rw [dstWords_at hA]
  constructor
  · intro h
    have h1 := congrArg BitVec.toNat h
    rw [BitVec.toNat_ofNat] at h1
    exact Fin.ext (by show (dstOf (args V) r e).val = 0; have := (dstOf (args V) r e).isLt; simp at h1; omega)
  · intro h
    rw [h]
    rfl

/-- The rectified scores of the edges into node 0. -/
theorem scored_at (r : Fin 64) (e : Fin 65) (h : Fin 8) (he : dstOf (args V) r (edgeOf e) = 0) :
    vals (scored V (Proc.devRef .tc main_v63)) (ix3 r (edgeOf e) h) = (args V).graph.leaky r e h := by
  have hc : (StableHlo.after hostOps0 V (Proc.devRef .tc main_cst_9) : FVec Ideal S_ .f32) = (constant S_ .f32 0x3E4CCCCD#32 : FVec Ideal S_ .f32) := by
    after_reads_simp
  refine (rectified (StableHlo.after hostOps0 V) hc r (edgeOf e) h).trans ?_
  have hs : vals (StableHlo.after hostOps0 V (Proc.devRef .tc main_v62)) (ix3 r (edgeOf e) h) = (args V).graph.raw r e h := by
    refine (scores_at hA r (edgeOf e) h).trans ?_
    rw [he, src_edge]
    rfl
  rw [hs]
  rfl

/-- The largest score the reference takes is the layer's. -/
theorem top_eq (h : Fin 8) :
    (Finset.univ.sup fun p : Fin 64 × Fin 96 =>
      if wordsOf (scored V (Proc.devRef .tc main_v31)) (ix2 p.1 p.2) = 0#32
      then vals (scored V (Proc.devRef .tc main_v63)) (ix3 p.1 p.2 h) else ⊥) = (args V).graph.top h := by
  apply le_antisymm
  · refine Finset.sup_le fun p _ => ?_
    split
    · rename_i h0
      have h1 := (dst_zero hA p.1 p.2).1 h0
      by_cases hp : p.2.val < 65
      · have hi := (into_edge hA p.1 ⟨p.2.val, hp⟩).2 h1
        have e : (if (args V).graph.into p.1 ⟨p.2.val, hp⟩ then (args V).graph.leaky p.1 ⟨p.2.val, hp⟩ h else ⊥) ≤ (args V).graph.top h :=
          Finset.le_sup (f := fun q : Fin 64 × Fin 65 => if (args V).graph.into q.1 q.2 then (args V).graph.leaky q.1 q.2 h else ⊥)
            (Finset.mem_univ ((p.1, ⟨p.2.val, hp⟩) : Fin 64 × Fin 65))
        rw [if_pos hi] at e
        exact le_trans (le_of_eq (scored_at hA p.1 ⟨p.2.val, hp⟩ h h1)) e
      · exact absurd h1 (loop_off p.1 p.2 hp)
    · exact bot_le
  · refine Finset.sup_le fun q _ => ?_
    split
    · rename_i hi
      have h1 := (into_edge hA q.1 q.2).1 hi
      have e := Finset.le_sup (f := fun p : Fin 64 × Fin 96 =>
        if wordsOf (scored V (Proc.devRef .tc main_v31)) (ix2 p.1 p.2) = 0#32
        then vals (scored V (Proc.devRef .tc main_v63)) (ix3 p.1 p.2 h) else ⊥)
        (Finset.mem_univ ((q.1, edgeOf q.2) : Fin 64 × Fin 96))
      dsimp only at e
      rw [if_pos ((dst_zero hA q.1 (edgeOf q.2)).2 h1)] at e
      exact le_trans (le_of_eq (scored_at hA q.1 q.2 h h1).symm) e
    · exact bot_le

/-- The weights of the layer's edges. -/
theorem shared_at (r : Fin 64) (e : Fin 65) (h : Fin 8) :
    vals (shared V (Proc.devRef .tc main_v73)) (ix3 r (edgeOf e) h) = (args V).graph.wt r e h := by
  refine (weights_at (scored V) r (edgeOf e) h).trans ?_
  rw [top_eq hA]
  unfold Graph.wt
  by_cases hi : (args V).graph.into r e = true
  · have h1 := (into_edge hA r e).1 hi
    rw [if_pos hi, if_pos ((dst_zero hA r (edgeOf e)).2 h1), scored_at hA r e h h1]
  · rw [if_neg hi, if_neg fun h0 => hi ((into_edge hA r e).2 ((dst_zero hA r (edgeOf e)).1 h0))]

/-- The other loops weigh nothing. -/
theorem shared_off (r : Fin 64) (e : Fin 96) (h : Fin 8) (he : ¬ e.val < 65) :
    vals (shared V (Proc.devRef .tc main_v73)) (ix3 r e h) = 0 :=
  (weights_at (scored V) r e h).trans (if_neg fun h0 => loop_off r e he ((dst_zero hA r e).1 h0))

/-- The weights' sum. -/
theorem shared_sum (r : Fin 64) (h : Fin 8) :
    (∑ d : Fin 96, vals (shared V (Proc.devRef .tc main_v73)) (ix3 r d h)) = (args V).graph.den r h := by
  rw [sum_edges96 _ fun e he => shared_off hA r e h he]
  exact Finset.sum_congr rfl fun e _ => shared_at hA r e h

omit hA in
/-- A weightless edge's share is zero: the weights' sum plus the guard is above zero. -/
theorem share_zero (g : Graph) (r : Fin 64) (h : Fin 8) : Ideal.div 0 (g.den r h + Graph.guard) = 0 := by
  obtain ⟨s, hs, hg⟩ := guard_real
  have h0 : 0 ≤ g.den r h := Finset.sum_nonneg fun e _ => g.wt_nonneg r e h
  have h1 : 0 < g.den r h + Graph.guard := by
    rw [hg]
    exact lt_of_lt_of_le (EReal.coe_pos.2 hs) (le_add_of_nonneg_left h0)
  unfold Ideal.div
  rw [if_neg h1.ne', zero_mul]

/-- The sources' projected rows. -/
theorem sources_at (r : Fin 64) (e : Fin 96) (h : Fin 8) (c : Fin 32) :
    rowsOf (StableHlo.after hostOps0_6 (shared V) (Proc.devRef .tc main_v88)) (ix4 r e h c)
      = (args V).graph.xw ((args V).graph.node r (srcOf (args V) r e)) (Graph.col h c) := by
  refine (congrFun (stage6_rows (shared V)) _).trans ?_
  have hidx : (StableHlo.after hostOps0_6 (shared V) (Proc.devRef .tc main_v87) : IVec S64x96x1 32) (ix3 r e (0 : Fin 1))
      = BitVec.ofNat 32 (nodeRow r (srcOf (args V) r e)).val := by
    refine (stage6_index (shared V) r e).trans ?_
    have ho : offsets V (ix2 r (0 : Fin 1)) = IntOp.muli 32#32 (BitVec.ofNat 32 r.val) := by
      simp only [offsets]
      after_reads_simp
      pointwise
    have hs := srcWords_at hA r e
    rw [(same_shared V).off, (same_shared V).src]
    rw [show (StableHlo.after hostOps0 V (Proc.devRef .tc main_v35) : IVec S64x1 32) (ix2 r (0 : Fin 1)) = _ from ho,
      show (StableHlo.after hostOps0 V (Proc.devRef .tc main_v28) : IVec S64x96 32) (ix2 r e) = _ from hs, row_word, wrap_row]
  refine (take_nodes _ _ r e h c _ hidx).trans ?_
  rw [(same_shared V).rows]
  exact projected_at hA r _ h c

/-- The attention layer's output. -/
theorem gat_at (r : Fin 64) (k : Fin 256) :
    (StableHlo.after hostOps0_6 (shared V) (Proc.devRef .tc main_v96) : FVec Ideal S64x256 .f32) (ix2 r k)
      = (args V).graph.gat r k := by
  refine (stage6_out (shared V) r k).trans ?_
  have hb : (args (shared V)).bgat = (args V).bgat := by
    refine (same_shared V).bias.trans ?_
    show (StableHlo.after hostOps0 V (Proc.devRef .tc main_arg5) : FVec Ideal S256 .f32) = V (Proc.devRef .tc main_arg5)
    after_reads_simp
  rw [hb, shared_sum hA]
  refine congrArg (· + _) ?_
  rw [sum_edges96 _ fun e he => by rw [shared_off hA r e _ he, share_zero, mul_zero]]
  refine Finset.sum_congr rfl fun e _ => ?_
  rw [shared_at hA, sources_at hA, src_edge]
  have hk : Graph.col (Graph.head k) ⟨k.val % 32, by omega⟩ = k := Fin.ext (by show k.val / 32 * 32 + k.val % 32 = k.val; omega)
  rw [hk]
  rfl

/-- The recurrent layers' inputs. -/
theorem inputs_at (r : Fin 64) (k : Fin 512) :
    (StableHlo.after hostOps0_6 (shared V) (Proc.devRef .tc main_v100_0) : FVec Ideal S64x512 .f32) (ix2 r k)
      = (args V).graph.input r k := by
  refine (stage6_inputs (shared V) r k).trans ?_
  unfold Graph.input
  by_cases h : k.val < 256
  · rw [dif_pos h, dif_pos h, (same_shared V).first]
    exact firstRows_at hA r _
  · rw [dif_neg h, dif_neg h]
    exact gat_at hA r _

end Cert.RefValue
end
-- ==== Proof.Value.RefCell.lean ====
module

public import proofs.«01_k».proof.Proof.Value.RefInput
public import proofs.«01_k».proof.Proof.Value.Recurrent

@[expose] public section
set_option maxRecDepth 16384

/-! # One trip of the reference's loop

What a trip makes of the two hidden states and of the stacked states, in terms of the recurrent layers' steps. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph Weights Row layer1 layer2 cell rowDot hid1 hid2)

variable (W : Valuation τ sig (Elt Ideal))

/-! Arrays of the shapes the loop carries, typed. -/

abbrev row (b : FVec Ideal S1x256 .f32) : FVec Ideal S1x256 .f32 := b
abbrev wide (b : FVec Ideal S1x512 .f32) : FVec Ideal S1x512 .f32 := b
abbrev tall (b : FVec Ideal S512x256 .f32) : FVec Ideal S512x256 .f32 := b
abbrev square (b : FVec Ideal S256x256 .f32) : FVec Ideal S256x256 .f32 := b
abbrev flat (b : FVec Ideal S256 .f32) : FVec Ideal S256 .f32 := b
abbrev stack (b : FVec Ideal S64x256 .f32) : FVec Ideal S64x256 .f32 := b
abbrev feed (b : FVec Ideal S64x512 .f32) : FVec Ideal S64x512 .f32 := b
abbrev count (b : IVec S_ 32) : IVec S_ 32 := b

/-- The weights the loop carries. -/
def carried : Weights where
  Wz1 i j := tall (W (Proc.devRef .tc main_v100_1)) (ix2 i j)
  Uz1 i j := square (W (Proc.devRef .tc main_v100_2)) (ix2 i j)
  Wr1 i j := tall (W (Proc.devRef .tc main_v100_3)) (ix2 i j)
  Ur1 i j := square (W (Proc.devRef .tc main_v100_4)) (ix2 i j)
  W1 i j := tall (W (Proc.devRef .tc main_v100_5)) (ix2 i j)
  bW1 j := flat (W (Proc.devRef .tc main_v100_6)) (ix1 j)
  U1 i j := square (W (Proc.devRef .tc main_v100_7)) (ix2 i j)
  bU1 j := flat (W (Proc.devRef .tc main_v100_8)) (ix1 j)
  Wz2 i j := square (W (Proc.devRef .tc main_v100_9)) (ix2 i j)
  Uz2 i j := square (W (Proc.devRef .tc main_v100_10)) (ix2 i j)
  Wr2 i j := square (W (Proc.devRef .tc main_v100_11)) (ix2 i j)
  Ur2 i j := square (W (Proc.devRef .tc main_v100_12)) (ix2 i j)
  W2 i j := square (W (Proc.devRef .tc main_v100_13)) (ix2 i j)
  bW2 j := flat (W (Proc.devRef .tc main_v100_14)) (ix1 j)
  U2 i j := square (W (Proc.devRef .tc main_v100_15)) (ix2 i j)
  bU2 j := flat (W (Proc.devRef .tc main_v100_16)) (ix1 j)

/-- The first layer's state the loop carries. -/
def state1 : Row 256 := fun j => row (W (Proc.devRef .tc main_v100_18)) (ix2 (0 : Fin 1) j)

/-- The second layer's. -/
def state2 : Row 256 := fun j => row (W (Proc.devRef .tc main_v100_19)) (ix2 (0 : Fin 1) j)

/-- The trip's input row. -/
def trip : Row 512 := fun k => wide (res_main_while0b_v117 W) (ix2 (0 : Fin 1) k)

/-- The first layer's update gate. -/
theorem gate1 (j : Fin 256) : row (res_main_while0b_v126 W) (ix2 (0 : Fin 1) j)
    = Ideal.logistic (rowDot (trip W) (carried W).Wz1 j + rowDot (state1 W) (carried W).Uz1 j) := by
  unfold res_main_while0b_v126
  simp only [trip, carried, state1, rowDot, Ideal.logistic]
  pointwise

/-- The first layer's new state. -/
theorem new1 (j : Fin 256) : row (res_main_while0b_v149 W) (ix2 (0 : Fin 1) j)
    = layer1 (carried W) (trip W) (state1 W) j := by
  unfold layer1 cell
  rw [← gate1 W j]
  unfold res_main_while0b_v149
  simp only [trip, carried, state1, rowDot, Ideal.logistic]
  pointwise

/-- The second layer's update gate. -/
theorem gate2 (j : Fin 256) : row (res_main_while0b_v158 W) (ix2 (0 : Fin 1) j)
    = Ideal.logistic (rowDot (fun k => row (res_main_while0b_v149 W) (ix2 (0 : Fin 1) k)) (carried W).Wz2 j
        + rowDot (state2 W) (carried W).Uz2 j) := by
  unfold res_main_while0b_v158
  simp only [carried, state2, rowDot, Ideal.logistic]
  pointwise

/-- The second layer's new state. -/
theorem new2 (j : Fin 256) : row (res_main_while0b_v181 W) (ix2 (0 : Fin 1) j)
    = layer2 (carried W) (fun k => row (res_main_while0b_v149 W) (ix2 (0 : Fin 1) k)) (state2 W) j := by
  unfold layer2 cell
  rw [← gate2 W j]
  unfold res_main_while0b_v181
  simp only [carried, state2, rowDot, Ideal.logistic]
  pointwise

end Cert.RefValue
end
-- ==== Proof.Value.RefLoop.lean ====
module

public import proofs.«01_k».proof.Proof.Value.RefCell

@[expose] public section
set_option maxRecDepth 16384

/-! # The reference's loop

What the loop's carried arrays hold after any number of its 64 trips. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph Weights Row layer1 layer2 cell rowDot hid1 hid2)

/-- The word of a number below 64 reads as that number. -/
theorem count_word (n : Fin 64) : (BitVec.ofNat 32 n.val).toInt = (n.val : Int) := by
  revert n; decide +kernel

/-- Indices with the same coordinates are the same. -/
theorem ix2_same {p q : ℕ} {a n : Fin p} {b k : Fin q} (h : a.val = n.val) (h' : b.val = k.val) : ix2 a b = ix2 n k := by
  rw [Fin.ext h, Fin.ext h']

variable (W : Valuation τ sig (Elt Ideal))

/-- The start of trip `n`'s row. -/
abbrev start (n : Fin 64) : Fin 2 → Int :=
  fun k => BitVec.toInt ((![fun _ => BitVec.ofNat 32 n.val, constantI S_ 32 0#32] : Fin 2 → IVec S_ 32) k (Shape.Idx.first h_S_))

/-- The start of a row of inputs is row `n`, column 0. -/
theorem start_feed (n : Fin 64) : Host.clampedStart S64x512 S1x512 rfl (start n) 0 = n.val
    ∧ Host.clampedStart S64x512 S1x512 rfl (start n) 1 = 0 :=
  ⟨Host.clampedStart_of_le (s := S64x512) (t := S1x512) rfl (start n) 0 n.val (count_word n) (by show n.val + 1 ≤ 64; omega),
    Host.clampedStart_of_le (s := S64x512) (t := S1x512) rfl (start n) 1 0 rfl (by decide)⟩

/-- The start of a row of states likewise. -/
theorem start_stack (n : Fin 64) : Host.clampedStart S64x256 S1x256 rfl (start n) 0 = n.val
    ∧ Host.clampedStart S64x256 S1x256 rfl (start n) 1 = 0 :=
  ⟨Host.clampedStart_of_le (s := S64x256) (t := S1x256) rfl (start n) 0 n.val (count_word n) (by show n.val + 1 ≤ 64; omega),
    Host.clampedStart_of_le (s := S64x256) (t := S1x256) rfl (start n) 1 0 rfl (by decide)⟩

/-- Trip `n` reads row `n` of the inputs. -/
theorem trip_at (n : Fin 64) (hn : count (W (Proc.devRef .tc main_v100_17)) = fun _ => BitVec.ofNat 32 n.val) (k : Fin 512) :
    trip W k = feed (W (Proc.devRef .tc main_v100_0)) (ix2 n k) := by
  unfold trip res_main_while0b_v117
  rw [show (W (Proc.devRef .tc main_v100_17) : IVec S_ 32) = _ from hn]
  pointwise
  refine congrArg (feed (W (Proc.devRef .tc main_v100_0))) (ix2_same (start_feed n).1 ?_)
  show Host.clampedStart S64x512 S1x512 rfl (start n) 1 + k.val = k.val
  rw [(start_feed n).2, Nat.zero_add]

/-- Trip `n` writes row `n` of the stacked states and keeps the others. -/
theorem stack_at (n : Fin 64) (hn : count (W (Proc.devRef .tc main_v100_17)) = fun _ => BitVec.ofNat 32 n.val) (r : Fin 64)
    (j : Fin 256) : stack (step_main_v100_20 W) (ix2 r j)
      = if r = n then row (res_main_while0b_v181 W) (ix2 (0 : Fin 1) j) else stack (W (Proc.devRef .tc main_v100_20)) (ix2 r j) := by
  unfold step_main_v100_20
  rw [show (W (Proc.devRef .tc main_v100_17) : IVec S_ 32) = _ from hn]
  simp only [id_eq]
  pointwise
  have h0 := (start_stack n).1
  have h1 := (start_stack n).2
  by_cases h : r = n
  · rw [if_pos h, dif_pos]
    · refine congrArg (row (res_main_while0b_v181 W)) (ix2_same rfl ?_)
      show j.val - Host.clampedStart S64x256 S1x256 rfl (start n) 1 = j.val
      rw [h1, Nat.sub_zero]
    · intro a
      match a with
      | ⟨0, _⟩ =>
        show Host.clampedStart S64x256 S1x256 rfl (start n) 0 ≤ r.val ∧ r.val < Host.clampedStart S64x256 S1x256 rfl (start n) 0 + 1
        rw [h0, h]; omega
      | ⟨1, _⟩ =>
        show Host.clampedStart S64x256 S1x256 rfl (start n) 1 ≤ j.val ∧ j.val < Host.clampedStart S64x256 S1x256 rfl (start n) 1 + 256
        rw [h1]; omega
  · rw [if_neg h, dif_neg]
    intro hin
    have e : Host.clampedStart S64x256 S1x256 rfl (start n) 0 ≤ r.val ∧ r.val < Host.clampedStart S64x256 S1x256 rfl (start n) 0 + 1 :=
      hin (0 : Fin 2)
    rw [h0] at e
    exact h (Fin.ext (by omega))

/-- What the carried arrays hold after `n` trips over the rows `x` with the weights `w`. -/
structure Held (w : Weights) (x : ℕ → Row 512) (n : ℕ) : Prop where
  rows : ∀ (r : Fin 64) k, feed (W (Proc.devRef .tc main_v100_0)) (ix2 r k) = x r.val k
  weights : carried W = w
  counter : count (W (Proc.devRef .tc main_v100_17)) = fun _ => BitVec.ofNat 32 n
  first : state1 W = hid1 w x n
  second : state2 W = hid2 w x n
  states : ∀ (r : Fin 64) j, r.val < n → stack (W (Proc.devRef .tc main_v100_20)) (ix2 r j) = hid2 w x (r.val + 1) j

/-- A trip leaves the weights. -/
theorem carried_step : carried (STEP W) = carried W := by
  unfold carried
  rw [STEP_main_v100_1, STEP_main_v100_2, STEP_main_v100_3, STEP_main_v100_4, STEP_main_v100_5, STEP_main_v100_6,
    STEP_main_v100_7, STEP_main_v100_8, STEP_main_v100_9, STEP_main_v100_10, STEP_main_v100_11, STEP_main_v100_12,
    STEP_main_v100_13, STEP_main_v100_14, STEP_main_v100_15, STEP_main_v100_16]

variable {W}

/-- The first layer's state after trip `n`. -/
theorem Held.new1 {w x} {n : Fin 64} (h : Held W w x n.val) (j : Fin 256) :
    row (res_main_while0b_v149 W) (ix2 (0 : Fin 1) j) = hid1 w x (n.val + 1) j := by
  rw [RefValue.new1, h.weights, h.first, show trip W = x n.val from funext fun k => (trip_at W n h.counter k).trans (h.rows n k)]
  rfl

/-- The second layer's. -/
theorem Held.new2 {w x} {n : Fin 64} (h : Held W w x n.val) (j : Fin 256) :
    row (res_main_while0b_v181 W) (ix2 (0 : Fin 1) j) = hid2 w x (n.val + 1) j := by
  rw [RefValue.new2, h.weights, h.second, show (fun k => row (res_main_while0b_v149 W) (ix2 (0 : Fin 1) k)) = hid1 w x (n.val + 1)
    from funext fun k => h.new1 k]
  rfl

/-- A trip takes what is held after `n` trips to what is held after `n + 1`. -/
theorem Held.step {w x} {n : Fin 64} (h : Held W w x n.val) : Held (STEP W) w x (n.val + 1) where
  rows r k := by
    rw [show feed (STEP W (Proc.devRef .tc main_v100_0)) = feed (W (Proc.devRef .tc main_v100_0)) from STEP_main_v100_0 W]
    exact h.rows r k
  weights := (carried_step W).trans h.weights
  counter := by
    refine (STEP_main_v100_17 W).trans ?_
    have e : count (step_main_v100_17 W) = addi (count (W (Proc.devRef .tc main_v100_17))) (constantI S_ 32 1#32) := rfl
    refine e.trans ?_
    rw [h.counter]
    funext i
    show BitVec.ofNat 32 n.val + 1#32 = BitVec.ofNat 32 (n.val + 1)
    rw [BitVec.ofNat_add]
  first := funext fun j => (congrFun (show row (STEP W (Proc.devRef .tc main_v100_18)) = row (res_main_while0b_v149 W)
    from STEP_main_v100_18 W) (ix2 (0 : Fin 1) j)).trans (h.new1 j)
  second := funext fun j => (congrFun (show row (STEP W (Proc.devRef .tc main_v100_19)) = row (res_main_while0b_v181 W)
    from STEP_main_v100_19 W) (ix2 (0 : Fin 1) j)).trans (h.new2 j)
  states r j hr := by
    rw [show stack (STEP W (Proc.devRef .tc main_v100_20)) = stack (step_main_v100_20 W) from STEP_main_v100_20 W,
      stack_at W n h.counter r j]
    by_cases e : r = n
    · rw [if_pos e, h.new2 j, e]
    · rw [if_neg e]
      exact h.states r j (by have := fun h' => e (Fin.ext h'); omega)

/-- What is held after any number of trips, from what is held before the first. -/
theorem Held.trips {w x} (h : Held W w x 0) : ∀ n ≤ 64, Held (STEP^[n] W) w x n
  | 0, _ => h
  | n + 1, hn => by
    rw [Function.iterate_succ_apply']
    exact (show Held (STEP^[n] W) w x (⟨n, by omega⟩ : Fin 64).val from h.trips n (by omega)).step

end Cert.RefValue
end
-- ==== Proof.Value.Final.lean ====
/- The array of log-probabilities after the run. -/
module

public import proofs.«01_k».proof.Proof.Value.HeadInv

@[expose] public section

set_option maxRecDepth 16384

noncomputable section

namespace Cert.Value

open Idealize.ShloMosaic Idealize.ShloMosaic.TcCoe
open Cert.KernelIdeal Cert.KernelIdeal.Gen Cert.KernelIdeal.Hand

variable (hid : Fin 64 → Row 256) (Wg : Fin 256 → Row 30000) (bg : Row 30000)
variable (m : (ℓ : Loc nD τ sig) → Buf (Elt Ideal) ℓ) (I : ScratchInv Ideal)

/-- A row's log-probabilities. -/
def logProb (r : Fin 64) : Row 30000 := fun v =>
  score hid Wg bg r v - (mx (score hid Wg bg r) Finset.univ + Ideal.log (sm (score hid Wg bg r) Finset.univ))

/-- The log-probabilities as an array. -/
def logProbs : FVec Ideal S64x30000 .f32 := fun i => logProb hid Wg bg (i 0) (i 1)

/-- The output array ends with the log-probabilities. -/
theorem final_array (c : Dev nD) : (datOf m I (headOut hid Wg bg) c).arrAt 19 (cfgs 0).N = logProbs hid Wg bg := by
  refine (datOf m I (headOut hid Wg bg) c).arrAt_eq_of_covers 19 (logProbs hid Wg bg) (by decide +kernel) fun t hf y => ?_
  have ht := (flush_out t).mp hf
  obtain ⟨h0, h1⟩ := out_size t ht
  obtain ⟨-, -, i0, -, ht8⟩ := head_index t
  rw [if_neg ht] at i0
  have e4 : t.val % 4 = t.val - 4 := by omega
  have y0 : (y 0).val < 64 := lt_of_lt_of_eq (y 0).isLt h0
  have y1 : (y 1).val < min 8192 (30000 - 8192 * (t.val - 4)) := lt_of_lt_of_eq (y 1).isLt h1
  have y8 : (y 1).val < 8192 := lt_of_lt_of_le y1 (min_le_left _ _)
  have h : 8192 * (t.val % 4) + (y 1).val < 30000 := by have := lt_of_lt_of_le y1 (min_le_right _ _); omega
  have ey : win0_19.xinj (grid0.coords t) y = ix2 (⟨(y 0).val, y0⟩ : Fin 64) (⟨(y 1).val, y8⟩ : Fin 8192) := by
    funext a
    match a with
    | ⟨0, _⟩ => rfl
    | ⟨1, _⟩ => rfl
  have hv := headOut_at (hid := hid) (Wg := Wg) (bg := bg) c t ⟨(y 0).val, y0⟩ ⟨(y 1).val, y8⟩ h
  rw [← ey] at hv
  refine Eq.trans ?_ (hv.trans ?_)
  · blk_simp
    rfl
  · refine Eq.trans (show _ = logProbs hid Wg bg (ix2 (⟨(y 0).val, y0⟩ : Fin 64) ⟨8192 * (t.val % 4) + (y 1).val, h⟩) from rfl) ?_
    rw [e4] at h
    blk_ext [i0, e4]

end Cert.Value

end
-- ==== Proof.Value.RefOut.lean ====
module

public import proofs.«01_k».proof.Proof.Value.RefLoop
public import proofs.«01_k».proof.Proof.Value.Final

@[expose] public section
set_option maxRecDepth 16384

/-! # The reference's results

The log-probabilities the reference returns, in terms of its arguments. -/

noncomputable section

namespace Cert.RefValue

open Idealize.ShloMosaic Idealize.ShloMosaic.TcCoe Idealize.ShloMosaic.StableHlo
open Cert.ReferenceIdeal Cert.ReferenceIdeal.Gen Cert.ReferenceIdeal.Value
open Cert.Value (Arrays Graph Weights Row Finite layer1 layer2 cell rowDot hid1 hid2 score mx sm logProb)

variable (V W : Valuation τ sig (Elt Ideal))

/-- The arrays before the loop's first trip. -/
def entry : Valuation τ sig (Elt Ideal) := StableHlo.after hostOps0_6 (shared V)

/-- They are what the operations before the loop make, stretch by stretch. -/
theorem entry_eq : afterL preI V = entry V := by
  simp only [afterL_cons, afterL_nil, entry, shared, weighed, masked, scored]

/-- The weights the loop starts with are the arguments. -/
theorem carried_entry : carried (entry V) = (args V).weights := by
  simp only [carried, entry, shared, weighed, masked, scored]
  after_reads_simp
  rfl

/-- Both hidden states start at zero. -/
theorem states_entry : state1 (entry V) = (fun _ => 0) ∧ state2 (entry V) = (fun _ => 0) := by
  constructor <;>
  · funext j
    simp only [state1, state2, entry, shared, weighed, masked, scored]
    after_reads_simp
    simp only [id_eq]
    pointwise

/-- The trips are counted from zero. -/
theorem counter_entry : count (entry V (Proc.devRef .tc main_v100_17)) = fun _ => 0#32 := by
  simp only [entry, shared, weighed, masked, scored]
  after_reads_simp
  rfl

variable {V}

/-- What is held before the first trip. -/
theorem held_entry (hA : (args V).Ok) : Held (entry V) (args V).weights (args V).input 0 where
  rows r k := (inputs_at hA r k).trans (by
    show _ = (if h : r.val < 64 then (args V).graph.input ⟨r.val, h⟩ else 0 : Row 512) k
    rw [dif_pos r.isLt])
  weights := carried_entry V
  counter := counter_entry V
  first := (states_entry V).1
  second := (states_entry V).2
  states r j h := absurd h (by omega)

/-- After the last trip the stacked states are the second layer's states after each input. -/
theorem stack_end (hA : (args V).Ok) (r : Fin 64) (j : Fin 256) :
    stack (STEP^[64] (entry V) (Proc.devRef .tc main_v100_20)) (ix2 r j) = (args V).hid r j :=
  ((held_entry hA).trips 64 (le_refl _)).states r j r.isLt

/-! The arrays the head reads and returns, typed. -/

abbrev headW (b : FVec Ideal S256x30000 .f32) : FVec Ideal S256x30000 .f32 := b
abbrev headB (b : FVec Ideal S30000 .f32) : FVec Ideal S30000 .f32 := b
abbrev result (b : FVec Ideal S64x30000 .f32) : FVec Ideal S64x30000 .f32 := b

/-- The scores the returned log-probabilities are made of. -/
def scoresOf (r : Fin 64) : Row 30000 := fun v =>
  ∑ x, stack (W (Proc.devRef .tc main_v100_20)) (ix2 r x) * headW (W (Proc.devRef .tc main_arg22)) (ix2 x v)
    + headB (W (Proc.devRef .tc main_arg23)) (ix1 v)

/-- The returned log-probabilities: a score less the row's greatest, less the logarithm of the row's sum. -/
theorem out_at (r : Fin 64) (v : Fin 30000) : result (out_main_v114 W) (ix2 r v)
    = scoresOf W r v - mx (scoresOf W r) Finset.univ - Ideal.log (sm (scoresOf W r) Finset.univ) := by
  unfold out_main_v114 mx sm mx
  rw [← Cert.Value.fold_max]
  unfold scoresOf
  pointwise

/-- The second result is zero. -/
theorem out_zero : (out_main_v115 W : IVec S64 32) = fun _ => 0#32 := by
  unfold out_main_v115
  funext i
  rfl

/-- The scores are finite. -/
theorem score_finite {A : Arrays} (hA : A.Ok) (r : Fin 64) : Finite (score A.hid A.headW A.headB r) :=
  Cert.Value.score_real (Cert.Value.hid2_real A.weights A.input (r.val + 1)) hA.headW hA.headB

/-- The reference's log-probabilities are the arguments'. -/
theorem out_eq (hA : (args V).Ok) (h : STEP^[64] (entry V) (Proc.devRef .tc main_arg22) = V (Proc.devRef .tc main_arg22))
    (h' : STEP^[64] (entry V) (Proc.devRef .tc main_arg23) = V (Proc.devRef .tc main_arg23)) (r : Fin 64) (v : Fin 30000) :
    result (out_main_v114 (STEP^[64] (entry V))) (ix2 r v) = logProb (args V).hid (args V).headW (args V).headB r v := by
  have e : scoresOf (STEP^[64] (entry V)) r = score (args V).hid (args V).headW (args V).headB r := by
    funext v
    unfold scoresOf score rowDot
    rw [h, h']
    simp only [stack_end hA]
    rfl
  rw [out_at, e]
  exact (Cert.Value.shift_log (score_finite hA r) v).symm

end Cert.RefValue
end
-- ==== Proof.Value.KernelHost.lean ====
module
public import proofs.«01_k».proof.Proof.Value.Inputs
public import proofs.«01_k».proof.Proof.Value.FrontBits
public import Idealize.ShloMosaic.Lib.StableHlo.RunRead
public import Idealize.ShloMosaic.Lib.Pipeline.ValueKit
@[expose] public section
set_option maxRecDepth 16384

/-! # What the kernel's buffers hold

The arrays that the host prepares for the kernel, read at coordinates, and the kernel's blocks of them. -/

noncomputable section
namespace Cert.Value
open Idealize.ShloMosaic Idealize.ShloMosaic.TcCoe
open Cert.KernelIdeal Cert.KernelIdeal.Gen Cert.KernelIdeal.Hand
variable (m : (ℓ : Loc nD τ sig) → Buf (Elt Ideal) ℓ)

/-- The kernel's arguments. -/
def kernelArrays (c : Dev nD) : Arrays where
  words := m ((c : Thread nD τ).loc main_arg0)
  table := m ((c : Thread nD τ).loc main_arg1)
  Wgat := m ((c : Thread nD τ).loc main_arg2)
  asrc := m ((c : Thread nD τ).loc main_arg3)
  adst := m ((c : Thread nD τ).loc main_arg4)
  bgat := m ((c : Thread nD τ).loc main_arg5)
  Wz1 := m ((c : Thread nD τ).loc main_arg6)
  Uz1 := m ((c : Thread nD τ).loc main_arg7)
  Wr1 := m ((c : Thread nD τ).loc main_arg8)
  Ur1 := m ((c : Thread nD τ).loc main_arg9)
  W1 := m ((c : Thread nD τ).loc main_arg10)
  bW1 := m ((c : Thread nD τ).loc main_arg11)
  U1 := m ((c : Thread nD τ).loc main_arg12)
  bU1 := m ((c : Thread nD τ).loc main_arg13)
  Wz2 := m ((c : Thread nD τ).loc main_arg14)
  Uz2 := m ((c : Thread nD τ).loc main_arg15)
  Wr2 := m ((c : Thread nD τ).loc main_arg16)
  Ur2 := m ((c : Thread nD τ).loc main_arg17)
  W2 := m ((c : Thread nD τ).loc main_arg18)
  bW2 := m ((c : Thread nD τ).loc main_arg19)
  U2 := m ((c : Thread nD τ).loc main_arg20)
  bU2 := m ((c : Thread nD τ).loc main_arg21)
  Wg := m ((c : Thread nD τ).loc main_arg22)
  bg := m ((c : Thread nD τ).loc main_arg23)

variable (c : Dev nD)

/-- The node words. -/
theorem idx_at (r : Fin 64) (i : Fin 32) : V m c main_v1 (ix2 r i) = (kernelArrays m c).word r ⟨i.val, by omega⟩ := by
  simp only [V, V0, hostOps0, List.flatten_cons, List.flatten_nil, List.append_nil]
  after_reads_simp
  pointwise
  rfl

/-- The edges' source words, then node 0. -/
theorem src_at (r : Fin 64) (e : Fin 65) : V m c main_v8 (ix2 (edge r e) 0) = if h : e.val < 64 then (kernelArrays m c).word r ⟨32 + e.val, by omega⟩ else 0#32 := by
  simp only [V, V0, hostOps0, List.flatten_cons, List.flatten_nil, List.append_nil]
  after_reads_simp
  pointwise
  after_reads_simp
  pointwise
  have h1 : (edge r e).val % 65 = e.val := by simp only [edge]; omega
  have h2 : (edge r e).val / 65 = r.val := by simp only [edge]; omega
  simp only [h1, h2]
  rfl

/-- The edges' target words, then node 0. -/
theorem dst_at (r : Fin 64) (e : Fin 65) : V m c main_v12 (ix2 (edge r e) 0) = if h : e.val < 64 then (kernelArrays m c).word r ⟨96 + e.val, by omega⟩ else 0#32 := by
  simp only [V, V0, hostOps0, List.flatten_cons, List.flatten_nil, List.append_nil]
  after_reads_simp
  pointwise
  after_reads_simp
  pointwise
  have h1 : (edge r e).val % 65 = e.val := by simp only [edge]; omega
  have h2 : (edge r e).val / 65 = r.val := by simp only [edge]; omega
  have h3 : 32 + (64 + e.val) = 96 + e.val := by omega
  simp only [h1, h2, h3]
  rfl

/-- The table's first 32 rows. -/
theorem x32_at (i : Fin 32) (k : Fin 256) : V m c main_v13 (ix2 i k) = (kernelArrays m c).table (ix2 ⟨i.val, by omega⟩ k) := by
  simp only [V, V0, hostOps0, List.flatten_cons, List.flatten_nil, List.append_nil]
  after_reads_simp
  pointwise
  rfl

/-- An attention vector, flattened. -/
theorem asrc_row_at (h : Fin 8) (k : Fin 32) : V m c main_v14 (ix2 0 (Graph.col h k)) = (kernelArrays m c).asrc (ix2 h k) := by
  simp only [V, V0, hostOps0, List.flatten_cons, List.flatten_nil, List.append_nil]
  after_reads_simp
  pointwise
  have h1 : (Graph.col h k).val / 32 = h.val := by simp only [Graph.col]; omega
  have h2 : (Graph.col h k).val % 32 = k.val := by simp only [Graph.col]; omega
  simp only [h1, h2]
  rfl

/-- An attention vector, flattened. -/
theorem adst_row_at (h : Fin 8) (k : Fin 32) : V m c main_v15 (ix2 0 (Graph.col h k)) = (kernelArrays m c).adst (ix2 h k) := by
  simp only [V, V0, hostOps0, List.flatten_cons, List.flatten_nil, List.append_nil]
  after_reads_simp
  pointwise
  have h1 : (Graph.col h k).val / 32 = h.val := by simp only [Graph.col]; omega
  have h2 : (Graph.col h k).val % 32 = k.val := by simp only [Graph.col]; omega
  simp only [h1, h2]
  rfl

/-- A bias, as a row. -/
theorem bgat_at (k : Fin 256) : V m c main_v16 (ix2 0 k) = (kernelArrays m c).bgat (ix1 k) := by
  simp only [V, V0, hostOps0, List.flatten_cons, List.flatten_nil, List.append_nil]
  after_reads_simp
  pointwise
  rfl

/-- A bias, as a row. -/
theorem bW1_at (k : Fin 256) : V m c main_v20 (ix2 0 k) = (kernelArrays m c).bW1 (ix1 k) := by
  simp only [V, V0, hostOps0, List.flatten_cons, List.flatten_nil, List.append_nil]
  after_reads_simp
  pointwise
  rfl

/-- A bias, as a row. -/
theorem bU1_at (k : Fin 256) : V m c main_v21 (ix2 0 k) = (kernelArrays m c).bU1 (ix1 k) := by
  simp only [V, V0, hostOps0, List.flatten_cons, List.flatten_nil, List.append_nil]
  after_reads_simp
  pointwise
  rfl

/-- A bias, as a row. -/
theorem bW2_at (k : Fin 256) : V m c main_v22 (ix2 0 k) = (kernelArrays m c).bW2 (ix1 k) := by
  simp only [V, V0, hostOps0, List.flatten_cons, List.flatten_nil, List.append_nil]
  after_reads_simp
  pointwise
  rfl

/-- A bias, as a row. -/
theorem bU2_at (k : Fin 256) : V m c main_v23 (ix2 0 k) = (kernelArrays m c).bU2 (ix1 k) := by
  simp only [V, V0, hostOps0, List.flatten_cons, List.flatten_nil, List.append_nil]
  after_reads_simp
  pointwise
  rfl

/-- A bias, as a row. -/
theorem bg_at (k : Fin 30000) : V m c main_v24 (ix2 0 k) = (kernelArrays m c).bg (ix1 k) := by
  simp only [V, V0, hostOps0, List.flatten_cons, List.flatten_nil, List.append_nil]
  after_reads_simp
  pointwise
  rfl

/-- Columns 0 on of the weights put side by side. -/
theorem v17_Wz1_at (i : Fin 512) (j : Fin 256) : V m c main_v17 (ix2 i ⟨j.val, by omega⟩) = (kernelArrays m c).Wz1 (ix2 i j) := by
  simp only [V, V0, hostOps0, List.flatten_cons, List.flatten_nil, List.append_nil]
  after_reads_simp
  pointwise
  rfl

/-- Columns 256 on of the weights put side by side. -/
theorem v17_Wr1_at (i : Fin 512) (j : Fin 256) : V m c main_v17 (ix2 i ⟨256 + j.val, by omega⟩) = (kernelArrays m c).Wr1 (ix2 i j) := by
  simp only [V, V0, hostOps0, List.flatten_cons, List.flatten_nil, List.append_nil]
  after_reads_simp
  pointwise
  rfl

/-- Columns 512 on of the weights put side by side. -/
theorem v17_W1_at (i : Fin 512) (j : Fin 256) : V m c main_v17 (ix2 i ⟨512 + j.val, by omega⟩) = (kernelArrays m c).W1 (ix2 i j) := by
  simp only [V, V0, hostOps0, List.flatten_cons, List.flatten_nil, List.append_nil]
  after_reads_simp
  pointwise
  repeat' split
  all_goals first | omega | exact congrArg (fun q : Fin 256 => (kernelArrays m c).W1 (ix2 i q)) (Fin.ext (by dsimp only; omega))

/-- Columns 0 on of the weights put side by side. -/
theorem v18_Uz1_at (i : Fin 256) (j : Fin 256) : V m c main_v18 (ix2 i ⟨j.val, by omega⟩) = (kernelArrays m c).Uz1 (ix2 i j) := by
  simp only [V, V0, hostOps0, List.flatten_cons, List.flatten_nil, List.append_nil]
  after_reads_simp
  pointwise
  rfl

/-- Columns 256 on of the weights put side by side. -/
theorem v18_Ur1_at (i : Fin 256) (j : Fin 256) : V m c main_v18 (ix2 i ⟨256 + j.val, by omega⟩) = (kernelArrays m c).Ur1 (ix2 i j) := by
  simp only [V, V0, hostOps0, List.flatten_cons, List.flatten_nil, List.append_nil]
  after_reads_simp
  pointwise
  rfl

/-- Columns 512 on of the weights put side by side. -/
theorem v18_Wz2_at (i : Fin 256) (j : Fin 256) : V m c main_v18 (ix2 i ⟨512 + j.val, by omega⟩) = (kernelArrays m c).Wz2 (ix2 i j) := by
  simp only [V, V0, hostOps0, List.flatten_cons, List.flatten_nil, List.append_nil]
  after_reads_simp
  pointwise
  repeat' split
  all_goals first | omega | exact congrArg (fun q : Fin 256 => (kernelArrays m c).Wz2 (ix2 i q)) (Fin.ext (by dsimp only; omega))

/-- Columns 768 on of the weights put side by side. -/
theorem v18_Wr2_at (i : Fin 256) (j : Fin 256) : V m c main_v18 (ix2 i ⟨768 + j.val, by omega⟩) = (kernelArrays m c).Wr2 (ix2 i j) := by
  simp only [V, V0, hostOps0, List.flatten_cons, List.flatten_nil, List.append_nil]
  after_reads_simp
  pointwise
  repeat' split
  all_goals first | omega | exact congrArg (fun q : Fin 256 => (kernelArrays m c).Wr2 (ix2 i q)) (Fin.ext (by dsimp only; omega))

/-- Columns 1024 on of the weights put side by side. -/
theorem v18_W2_at (i : Fin 256) (j : Fin 256) : V m c main_v18 (ix2 i ⟨1024 + j.val, by omega⟩) = (kernelArrays m c).W2 (ix2 i j) := by
  simp only [V, V0, hostOps0, List.flatten_cons, List.flatten_nil, List.append_nil]
  after_reads_simp
  pointwise
  repeat' split
  all_goals first | omega | exact congrArg (fun q : Fin 256 => (kernelArrays m c).W2 (ix2 i q)) (Fin.ext (by dsimp only; omega))

/-- Columns 0 on of the weights put side by side. -/
theorem v19_Uz2_at (i : Fin 256) (j : Fin 256) : V m c main_v19 (ix2 i ⟨j.val, by omega⟩) = (kernelArrays m c).Uz2 (ix2 i j) := by
  simp only [V, V0, hostOps0, List.flatten_cons, List.flatten_nil, List.append_nil]
  after_reads_simp
  pointwise
  rfl

/-- Columns 256 on of the weights put side by side. -/
theorem v19_Ur2_at (i : Fin 256) (j : Fin 256) : V m c main_v19 (ix2 i ⟨256 + j.val, by omega⟩) = (kernelArrays m c).Ur2 (ix2 i j) := by
  simp only [V, V0, hostOps0, List.flatten_cons, List.flatten_nil, List.append_nil]
  after_reads_simp
  pointwise
  rfl
end Cert.Value
end
-- ==== Proof.Value.KernelCell.lean ====
/- The kernel's two recurrent cells, read at a column. -/
module

public import proofs.«01_k».proof.Proof.Value.Recurrent
public import proofs.«01_k».proof.Proof.KernelIdeal.LoopRun

@[expose] public section

set_option maxRecDepth 16384

noncomputable section

namespace Cert.Value

open Idealize.ShloMosaic
open Cert.KernelIdeal Cert.KernelIdeal.Gen Cert.KernelIdeal.Hand

/-- The row held by an array of one row. -/
abbrev row256 (v : FVec Ideal S1x256 .f32) : Row 256 := fun j => v (ix2 0 j)

/-- The first layer's new hidden state is a cell over the input's products and the hidden state's. -/
theorem pay17_at (b1 ub1 h : FVec Ideal S1x256 .f32) (x : FVec Ideal S1x768 .f32) (W : FVec Ideal S256x1280 .f32)
    (U : FVec Ideal S256x256 .f32) (j : Fin 256) :
    k0_pay17 b1 ub1 h x W U (ix2 0 j)
      = cell (fun j => x (ix2 0 ⟨j, by omega⟩) + rowDot (row256 h) (fun i j => W (ix2 i ⟨j, by omega⟩)) j)
          (fun j => x (ix2 0 ⟨256 + j, by omega⟩) + rowDot (row256 h) (fun i (j : Fin 256) => W (ix2 i ⟨256 + j, by omega⟩)) j)
          (fun j => x (ix2 0 ⟨512 + j, by omega⟩) + b1 (ix2 0 j))
          (fun i j => U (ix2 i j)) (row256 ub1) (row256 h) j := by
  pointwise [k0_pay17, k0_pay15, cell, rowDot]

/-- The second layer's new hidden state is a cell over the first layer's row and the hidden state. -/
theorem pay1_at (b2 ub2 h1 h2 : FVec Ideal S1x256 .f32) (W : FVec Ideal S256x1280 .f32) (V : FVec Ideal S256x512 .f32)
    (U : FVec Ideal S256x256 .f32) (j : Fin 256) :
    k0_pay1 ub2 h2 (k0_pay18 h1 h2 W V) (k0_pay19 b2 h1 h2 W V U) (ix2 0 j)
      = cell (fun j => rowDot (row256 h1) (fun i (j : Fin 256) => W (ix2 i ⟨512 + j, by omega⟩)) j + rowDot (row256 h2) (fun i (j : Fin 256) => V (ix2 i ⟨j, by omega⟩)) j)
          (fun j => rowDot (row256 h1) (fun i (j : Fin 256) => W (ix2 i ⟨768 + j, by omega⟩)) j + rowDot (row256 h2) (fun i (j : Fin 256) => V (ix2 i ⟨256 + j, by omega⟩)) j)
          (fun j => rowDot (row256 h1) (fun i (j : Fin 256) => W (ix2 i ⟨1024 + j, by omega⟩)) j + b2 (ix2 0 j))
          (fun i j => U (ix2 i j)) (row256 ub2) (row256 h2) j := by
  pointwise [k0_pay1, k0_pay18, k0_pay19, k0_pay15, k0_pay16, cell, rowDot]

end Cert.Value

end
-- ==== Proof.Value.KernelRec.lean ====
/- The rows that the kernel's loop leaves are the second layer's hidden states. -/
module

public import proofs.«01_k».proof.Proof.Value.KernelCell

@[expose] public section

set_option maxRecDepth 16384

noncomputable section

namespace Cert.Value

open Idealize.ShloMosaic
open Cert.KernelIdeal Cert.KernelIdeal.Gen Cert.KernelIdeal.Hand

/-- What ties the kernel's packed arrays to the two layers' weights and their input rows: `rows` holds the input's
    products, trip by trip; `W` and `V` hold the hidden state's weights side by side. -/
structure Packed (w : Weights) (x : ℕ → Row 512) (b1 ub1 b2 ub2 : FVec Ideal S1x256 .f32) (W : FVec Ideal S256x1280 .f32)
    (U : FVec Ideal S256x256 .f32) (V : FVec Ideal S256x512 .f32) (U' : FVec Ideal S256x256 .f32)
    (rows : Fin k0_t1_loop.trips → FVec Ideal S1x768 .f32) : Prop where
  rz : ∀ (k : Fin k0_t1_loop.trips) (j : Fin 256), k.val < 64 → rows k (ix2 0 ⟨j, by omega⟩) = rowDot (x k) w.Wz1 j
  rr : ∀ (k : Fin k0_t1_loop.trips) (j : Fin 256), k.val < 64 → rows k (ix2 0 ⟨256 + j, by omega⟩) = rowDot (x k) w.Wr1 j
  rc : ∀ (k : Fin k0_t1_loop.trips) (j : Fin 256), k.val < 64 → rows k (ix2 0 ⟨512 + j, by omega⟩) = rowDot (x k) w.W1 j
  b1 : ∀ j, b1 (ix2 0 j) = w.bW1 j
  ub1 : ∀ j, ub1 (ix2 0 j) = w.bU1 j
  b2 : ∀ j, b2 (ix2 0 j) = w.bW2 j
  ub2 : ∀ j, ub2 (ix2 0 j) = w.bU2 j
  uz1 : ∀ i (j : Fin 256), W (ix2 i ⟨j, by omega⟩) = w.Uz1 i j
  ur1 : ∀ i (j : Fin 256), W (ix2 i ⟨256 + j, by omega⟩) = w.Ur1 i j
  wz2 : ∀ i (j : Fin 256), W (ix2 i ⟨512 + j, by omega⟩) = w.Wz2 i j
  wr2 : ∀ i (j : Fin 256), W (ix2 i ⟨768 + j, by omega⟩) = w.Wr2 i j
  wc2 : ∀ i (j : Fin 256), W (ix2 i ⟨1024 + j, by omega⟩) = w.W2 i j
  u1 : ∀ i j, U (ix2 i j) = w.U1 i j
  uz2 : ∀ i (j : Fin 256), V (ix2 i ⟨j, by omega⟩) = w.Uz2 i j
  ur2 : ∀ i (j : Fin 256), V (ix2 i ⟨256 + j, by omega⟩) = w.Ur2 i j
  u2 : ∀ i j, U' (ix2 i j) = w.U2 i j

variable {w : Weights} {x : ℕ → Row 512} {b1 ub1 b2 ub2 : FVec Ideal S1x256 .f32} {W : FVec Ideal S256x1280 .f32}
  {U : FVec Ideal S256x256 .f32} {V : FVec Ideal S256x512 .f32} {U' : FVec Ideal S256x256 .f32}
  {rows : Fin k0_t1_loop.trips → FVec Ideal S1x768 .f32}

/-- The first layer's step of the kernel is the layer's. -/
theorem pay17_layer (P : Packed w x b1 ub1 b2 ub2 W U V U' rows) (k : Fin k0_t1_loop.trips) (hk : k.val < 64)
    (h : FVec Ideal S1x256 .f32) (j : Fin 256) : k0_pay17 b1 ub1 h (rows k) W U (ix2 0 j) = layer1 w (x k) (row256 h) j := by
  rw [pay17_at]
  unfold layer1
  congr 1
  · funext j; simp only [P.rz k _ hk, P.uz1]
  · funext j; simp only [P.rr k _ hk, P.ur1]
  · funext j; simp only [P.rc k _ hk, P.b1]
  · funext i j; exact P.u1 i j
  · funext j; exact P.ub1 j

/-- The second layer's step of the kernel is the layer's. -/
theorem pay1_layer (P : Packed w x b1 ub1 b2 ub2 W U V U' rows) (h1 h2 : FVec Ideal S1x256 .f32) (j : Fin 256) :
    k0_pay1 ub2 h2 (k0_pay18 h1 h2 W V) (k0_pay19 b2 h1 h2 W V U') (ix2 0 j) = layer2 w (row256 h1) (row256 h2) j := by
  rw [pay1_at]
  unfold layer2
  congr 1
  · funext j; simp only [P.wz2, P.uz2]
  · funext j; simp only [P.wr2, P.ur2]
  · funext j; simp only [P.wc2, P.b2]
  · funext i j; exact P.u2 i j
  · funext j; exact P.ub2 j

/-- The loop makes 65 trips. -/
theorem trips_eq : k0_t1_loop.trips = 65 := Hand.trips_eq

/-- Every trip but the first counts from above zero. -/
theorem later_trip (n : Fin 64) : Scalar.cmpi .sgt (Scf.iv 0#32 1#32 (n.val + 1)) 0#32 = 1#1 := by
  revert n; decide +kernel

/-- What the loop carries before a trip: the first layer's state, and the second layer's one trip behind. -/
theorem gruAcc_at (P : Packed w x b1 ub1 b2 ub2 W U V U' rows) : ∀ n ≤ 64,
    row256 (gruAcc b1 ub1 b2 ub2 W U V U' rows n).1 = hid1 w x n
      ∧ row256 (gruAcc b1 ub1 b2 ub2 W U V U' rows n).2 = hid2 w x (n - 1)
      ∧ row256 (gruAcc b1 ub1 b2 ub2 W U V U' rows (n + 1)).2 = hid2 w x n := by
  intro n
  induction n with
  | zero =>
    intro _
    have h0 : ∀ j, (k0_pay44 (F := Ideal)) (ix2 0 j) = 0 := fun j => by pointwise [k0_pay44]
    refine ⟨funext h0, funext h0, funext fun j => ?_⟩
    show (gruAcc b1 ub1 b2 ub2 W U V U' rows 1).2 (ix2 0 j) = 0
    rw [gruAcc, dif_pos (show 0 < k0_t1_loop.trips by rw [trips_eq]; omega)]
    exact h0 j
  | succ n ih =>
    intro hn
    obtain ⟨i1, -, i2⟩ := ih (by omega)
    have e1 : row256 (gruAcc b1 ub1 b2 ub2 W U V U' rows (n + 1)).1 = hid1 w x (n + 1) := by
      funext j
      show (gruAcc b1 ub1 b2 ub2 W U V U' rows (n + 1)).1 (ix2 0 j) = _
      rw [gruAcc, dif_pos (by rw [trips_eq]; omega), hid1, ← i1]
      exact pay17_layer P ⟨n, _⟩ (by show n < 64; omega) _ j
    refine ⟨e1, i2, funext fun j => ?_⟩
    show (gruAcc b1 ub1 b2 ub2 W U V U' rows (n + 1 + 1)).2 (ix2 0 j) = _
    rw [gruAcc, dif_pos (by rw [trips_eq]; omega), hid2, ← i2, ← e1]
    refine Eq.trans ?_ (pay1_layer P _ _ j)
    unfold gruStep k0_pay3
    have hc := later_trip ⟨n, by omega⟩
    simp only [hc]
    rfl

/-- The buffer of rows after the loop: row `r` is the second layer's state after `r + 1` inputs. -/
theorem gruRows_at (P : Packed w x b1 ub1 b2 ub2 W U V U' rows) (r : Fin 64) (j : Fin 256) :
    gruRows b1 ub1 b2 ub2 W U V U' rows (ix2 r j) = hid2 w x (r + 1) j := by
  obtain ⟨i1, i2, -⟩ := gruAcc_at P (r + 1) (by omega)
  rw [hid2, ← i1]
  have := pay1_layer P (gruAcc b1 ub1 b2 ub2 W U V U' rows (r + 1)).1 (gruAcc b1 ub1 b2 ub2 W U V U' rows (r + 1)).2 j
  rw [i2] at this
  refine Eq.trans ?_ this
  unfold gruRows gruRow k0_pay2
  pointwise
  refine congrArg _ (funext fun a => ?_)
  fin_cases a <;> rfl

end Cert.Value

end
-- ==== Proof.Value.HeadSteps.lean ====
/- Every grid point keeps the head's scratch contents, and the second pass leaves the log-softmax of the scores. -/
module

public import proofs.«01_k».proof.Proof.Value.HeadInv

@[expose] public section

set_option maxRecDepth 16384

noncomputable section

namespace Cert.Value

open Idealize.ShloMosaic Idealize.ShloMosaic.TcCoe
open Cert.KernelIdeal Cert.KernelIdeal.Gen Cert.KernelIdeal.Hand

variable {hid : Fin 64 → Row 256} {Wg : Fin 256 → Row 30000} {bg : Row 30000}
variable (m : (ℓ : Loc nD τ sig) → Buf (Elt Ideal) ℓ)

/-- The head's weights and its bias, as the launch finds them. -/
structure HeadArrays (Wg : Fin 256 → Row 30000) (bg : Row 30000) : Prop where
  weights : ∀ (c : Dev nD) k v, m ((c : Thread nD τ).loc main_arg22) (ix2 k v) = Wg k v
  bias : ∀ (c : Dev nD) v, V m c main_v24 (ix2 0 v) = bg v

variable {m}

/-- The blocks of a tile's point are the tile's columns. -/
theorem HeadArrays.tile (A : HeadArrays m Wg bg) (c : Dev nD) (t : Fin cfg0.N) (ht : t.val < 4) (d17 : S256x8192.Idx → Elt Ideal .f32)
    (d18 : S1x8192.Idx → Elt Ideal .f32) {H : FVec Ideal S64x256 .f32} (hH : ∀ r k, H (ix2 r k) = hid r k) :
    TileData t H (win0_17.fill (grid0.coords t) d17 (iblk m c 17 t)) (win0_18.fill (grid0.coords t) d18 (iblk m c 18 t)) hid Wg bg where
  lt := ht
  hH := hH
  hW k v h := (weights_block m c t ht d17 k v h).trans (A.weights c k _)
  hb v h := (bias_block m c t ht d18 v h).trans (A.bias c _)

/-- The first point's contents, from the hidden states it leaves. -/
theorem first_inv {t : Fin cfg0.N} (ht : t.val = 0) {H : FVec Ideal S64x256 .f32} {W : FVec Ideal S256x8192 .f32} {b : FVec Ideal S1x8192 .f32}
    (D : TileData t H W b hid Wg bg) (hL : ∀ r, Finite (score hid Wg bg r)) (IW SC) :
    headInv hid Wg bg 1 H IW (VecWindow.put (s := S4x64x8192) (α := Elt Ideal .f32) SC (k0_off3 (grid0.coords t)) S1x64x8192.size (k0_pay5 (F := Ideal) H W b))
      (k0_pay9 (F := Ideal) (grid0.coords t) H W b) (k0_pay10 (F := Ideal) (grid0.coords t) H W b) := by
  intro _
  refine ⟨D.hH, fun r => ?_, fun r => ?_, fun j hj r v h => ?_⟩
  · rw [pay9_at, D.max r, ht, show min 1 4 = 1 from rfl, cols_one]
  · rw [pay10_at, D.sum hL r, ht, show min 1 4 = 1 from rfl, cols_one]
  · exact D.slabs (fun j hj => absurd hj (by omega)) j (by omega) r v h

/-- A further tile's point keeps the contents. -/
theorem tile_inv {t : Fin cfg0.N} (ht : t.val ≠ 0) {H : FVec Ideal S64x256 .f32} {W : FVec Ideal S256x8192 .f32} {b : FVec Ideal S1x8192 .f32}
    (D : TileData t H W b hid Wg bg) (hL : ∀ r, Finite (score hid Wg bg r)) {IW SC M S} (hI : headInv hid Wg bg t.val H IW SC M S) :
    headInv hid Wg bg (t.val + 1) H IW (VecWindow.put (s := S4x64x8192) (α := Elt Ideal .f32) SC (k0_off3 (grid0.coords t)) S1x64x8192.size (k0_pay5 (F := Ideal) H W b))
      (k0_pay13 (F := Ideal) (grid0.coords t) H W b M) (k0_pay12 (F := Ideal) (grid0.coords t) H W b M S) := by
  intro _
  obtain ⟨-, hM, hS, hSC⟩ := hI (by omega)
  have ht4 := D.lt
  have e0 : min t.val 4 = t.val := by omega
  have e1 : min (t.val + 1) 4 = t.val + 1 := by omega
  rw [e0] at hM hS hSC
  rw [e1]
  have hu (r : Fin 64) := sm_union (hL r) (cols_nonempty (n := t.val) (by omega)) (tile_nonempty D.lt) (cols_tile t.val)
  refine ⟨D.hH, fun r => ?_, fun r => ?_, fun j hj r v h => ?_⟩
  · rw [pay13_at, D.max r, hM r, cols_succ, (hu r).1]
  · rw [pay12_at, D.max r, D.sum hL r, hM r, hS r, cols_succ, (hu r).2, (hu r).1]
  · exact D.slabs hSC j hj r v h

/-- A further tile's point keeps the head's contents what they are said to be. -/
theorem head_tile (A : HeadArrays m Wg bg) (hL : ∀ r, Finite (score hid Wg bg r)) : TileOK m (headInv hid Wg bg) := by
  intro c t ht ht4 d17 d18 H IW SC M S hI
  exact tile_inv ht (A.tile c t ht4 d17 d18 (hI (by omega)).1) hL hI

/-- The points that write the output leave them. -/
theorem head_second : SecondOK (headInv hid Wg bg) := by
  intro t ht H IW SC M S hI _
  have := hI (by omega)
  rw [show min t.val 4 = 4 by omega] at this
  rw [show min (t.val + 1) 4 = 4 by omega]
  exact this

/-- Those points write the log-probabilities' blocks. -/
theorem head_out (hL : ∀ r, Finite (score hid Wg bg r)) : OutOK (headInv hid Wg bg) (headOut hid Wg bg) := by
  intro c t ht h5 H IW SC M S hI
  obtain ⟨-, hM, hS, hSC⟩ := hI (by omega)
  rw [show min t.val 4 = 4 by omega, cols_four] at hM hS
  rw [show min t.val 4 = 4 by omega] at hSC
  obtain ⟨h0, h1⟩ := out_size t ht
  have ht8 : t.val < 8 := (head_index t).2.2.2.2
  have e4 : t.val % 4 = t.val - 4 := by omega
  funext y
  have y0 : (y 0).val < 64 := lt_of_lt_of_eq (y 0).isLt h0
  have y1 : (y 1).val < min 8192 (30000 - 8192 * (t.val - 4)) := lt_of_lt_of_eq (y 1).isLt h1
  have y8 : (y 1).val < 8192 := lt_of_lt_of_le y1 (min_le_left _ _)
  have h : 8192 * (t.val % 4) + (y 1).val < 30000 := by have := lt_of_lt_of_le y1 (min_le_right _ _); omega
  have ey : win0_19.xinj (grid0.coords t) y = ix2 (⟨(y 0).val, y0⟩ : Fin 64) (⟨(y 1).val, y8⟩ : Fin 8192) := by
    funext a
    match a with
    | ⟨0, _⟩ => rfl
    | ⟨1, _⟩ => rfl
  rw [Pipeline.Window.cut_apply, Pipeline.Window.cut_apply, ey]
  have hs := slab_read t SC h5 ⟨(y 0).val, y0⟩ ⟨(y 1).val, y8⟩
  rw [hSC _ (by show t.val % 4 < 4; omega) _ _ h] at hs
  generalize View.ld SC _ = T at hs ⊢
  rw [pay14_at M S T, hs, hM, hS]
  exact (headOut_at c t ⟨(y 0).val, y0⟩ ⟨(y 1).val, y8⟩ h).symm

end Cert.Value

end
-- ==== Proof.Value.KernelInput.lean ====
module
public import proofs.«01_k».proof.Proof.Value.KernelHost
public import proofs.«01_k».proof.Proof.Value.KernelGraph
public import proofs.«01_k».proof.Proof.Value.KernelRec
public import proofs.«01_k».proof.Proof.Value.HeadSteps
public import proofs.«01_k».proof.Proof.KernelIdeal.Point
@[expose] public section
set_option maxRecDepth 16384

/-! # The first point of the kernel

The first point's body reads whole arrays. From the arguments' contents it computes the recurrent layers' states, which
it stores for all the points. -/

noncomputable section
namespace Cert.Value
open Idealize.ShloMosaic Idealize.ShloMosaic.TcCoe
open Cert.KernelIdeal Cert.KernelIdeal.Gen Cert.KernelIdeal.Hand
variable (m : (ℓ : Loc nD τ sig) → Buf (Elt Ideal) ℓ) (c : Dev nD)

/-- The first seventeen windows are whole arrays at every point. -/
theorem whole : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] := (by decide +kernel : ∀ t : Fin grid0.N, _)

/-- Window 0's block is its array. -/
theorem iblk0 (t) : iblk m c 0 t = V m c main_v1 := by blk_ext! [iblk, whole t]

/-- Window 1's block is its array. -/
theorem iblk1 (t) : iblk m c 1 t = V m c main_v8 := by blk_ext! [iblk, whole t]

/-- Window 2's block is its array. -/
theorem iblk2 (t) : iblk m c 2 t = V m c main_v12 := by blk_ext! [iblk, whole t]

/-- Window 3's block is its array. -/
theorem iblk3 (t) : iblk m c 3 t = V m c main_v13 := by blk_ext! [iblk, whole t]

/-- Window 4's block is its array. -/
theorem iblk4 (t) : iblk m c 4 t = V m c main_arg2 := by blk_ext! [iblk, whole t]

/-- Window 5's block is its array. -/
theorem iblk5 (t) : iblk m c 5 t = V m c main_v14 := by blk_ext! [iblk, whole t]

/-- Window 6's block is its array. -/
theorem iblk6 (t) : iblk m c 6 t = V m c main_v15 := by blk_ext! [iblk, whole t]

/-- Window 7's block is its array. -/
theorem iblk7 (t) : iblk m c 7 t = V m c main_v16 := by blk_ext! [iblk, whole t]

/-- Window 8's block is its array. -/
theorem iblk8 (t) : iblk m c 8 t = V m c main_v17 := by blk_ext! [iblk, whole t]

/-- Window 9's block is its array. -/
theorem iblk9 (t) : iblk m c 9 t = V m c main_v20 := by blk_ext! [iblk, whole t]

/-- Window 10's block is its array. -/
theorem iblk10 (t) : iblk m c 10 t = V m c main_v18 := by blk_ext! [iblk, whole t]

/-- Window 11's block is its array. -/
theorem iblk11 (t) : iblk m c 11 t = V m c main_arg12 := by blk_ext! [iblk, whole t]

/-- Window 12's block is its array. -/
theorem iblk12 (t) : iblk m c 12 t = V m c main_v21 := by blk_ext! [iblk, whole t]

/-- Window 13's block is its array. -/
theorem iblk13 (t) : iblk m c 13 t = V m c main_v22 := by blk_ext! [iblk, whole t]

/-- Window 14's block is its array. -/
theorem iblk14 (t) : iblk m c 14 t = V m c main_v19 := by blk_ext! [iblk, whole t]

/-- Window 15's block is its array. -/
theorem iblk15 (t) : iblk m c 15 t = V m c main_arg20 := by blk_ext! [iblk, whole t]

/-- Window 16's block is its array. -/
theorem iblk16 (t) : iblk m c 16 t = V m c main_v23 := by blk_ext! [iblk, whole t]

/-- The blocks of the attention layer's arrays hold the samples' graphs. -/
theorem front_data (hA : (kernelArrays m c).Ok) (t : Fin cfg0.N) :
    FrontData (kernelArrays m c).graph (iblk m c 0 t) (iblk m c 1 t) (iblk m c 2 t) (iblk m c 3 t) (iblk m c 4 t) (iblk m c 5 t)
      (iblk m c 6 t) (iblk m c 7 t) where
  idx r i := by
    rw [iblk0, idx_at]
    exact (hA.small r _).symm
  src r e := by
    rw [iblk1, src_at]
    show _ = BitVec.ofNat 32 (dite _ _ _ : Fin 32).val
    split
    · exact (hA.small r _).symm
    · rfl
  into r e := by
    rw [iblk2, dst_at]
    show _ ↔ dite _ _ _ = true
    split
    · exact decide_eq_true_iff.symm
    · exact ⟨fun _ => rfl, fun _ => rfl⟩
  x i k := by rw [iblk3]; exact x32_at m c i k
  w d k := by rw [iblk4]; rfl
  aS h k := by rw [iblk5]; exact asrc_row_at m c h k
  aD h k := by rw [iblk6]; exact adst_row_at m c h k
  b k := by rw [iblk7]; exact bgat_at m c k

/-- A trip but the last reads the row of its own number. -/
theorem trip_off : ∀ k : Fin k0_t1_loop.trips, k.val < 64 → k0_off1 k 0 = k.val ∧ k0_off1 k 1 = 0 := by decide +kernel

/-- The row that such a trip reads. -/
theorem trip_row (i : grid0.Coords) (h1 : k0_cond1 i = 1#1) (IW : FVec Ideal S64x768 .f32) (k : Fin k0_t1_loop.trips) (hk : k.val < 64) (q : Fin 768) :
    (tripRows i h1 IW k : Vec Ideal S1x768 .f32) (ix2 0 q) = IW (ix2 ⟨k.val, hk⟩ q) := by
  obtain ⟨o0, o1⟩ := trip_off k hk
  refine congrArg IW (funext fun a => ?_)
  match a with
  | ⟨0, _⟩ => exact Fin.ext (by show k0_off1 k 0 + 1 * (0 : ℕ) = _; rw [o0]; rfl)
  | ⟨1, _⟩ => exact Fin.ext (by show k0_off1 k 1 + 1 * q.val = _; rw [o1]; show 0 + 1 * q.val = q.val; omega)

/-- What a trip reads is its input's product with a first-layer weight matrix, read at the matrix's columns. -/
theorem trip_dot (hA : (kernelArrays m c).Ok) (t : Fin cfg0.N) (i : grid0.Coords) (h1 : k0_cond1 i = 1#1) (k : Fin k0_t1_loop.trips) (hk : k.val < 64)
    (W : Fin 512 → Row 256) (j : Fin 256) (q : Fin 768) (hW : ∀ d, V m c main_v17 (ix2 d q) = W d j) :
    tripRows (F := Ideal) i h1 (iwVal (iblk m c 0 t) (iblk m c 1 t) (iblk m c 2 t) (iblk m c 3 t) (iblk m c 4 t) (iblk m c 5 t) (iblk m c 6 t) (iblk m c 7 t) (iblk m c 8 t)) k (ix2 0 q)
      = rowDot ((kernelArrays m c).input k) W j := by
  refine (trip_row i h1 _ k hk q).trans (((front_data m c hA t).rows_at _ ⟨k.val, hk⟩ q).trans ?_)
  unfold Arrays.input rowDot
  rw [dif_pos hk, iblk8]
  exact Finset.sum_congr rfl fun d _ => congrArg _ (hW d)

/-- The blocks of the recurrent layers' arrays hold the layers' weights, and the rows stored their inputs' products. -/
theorem packed (hA : (kernelArrays m c).Ok) (t : Fin cfg0.N) (i : grid0.Coords) (h1 : k0_cond1 i = 1#1) :
    Packed (kernelArrays m c).weights (kernelArrays m c).input (k0_pay40 (F := Ideal) (iblk m c 9 t)) (k0_pay41 (F := Ideal) (iblk m c 12 t))
      (k0_pay42 (F := Ideal) (iblk m c 13 t)) (k0_pay43 (F := Ideal) (iblk m c 16 t)) (iblk m c 10 t) (iblk m c 11 t) (iblk m c 14 t) (iblk m c 15 t)
      (tripRows i h1 (iwVal (iblk m c 0 t) (iblk m c 1 t) (iblk m c 2 t) (iblk m c 3 t) (iblk m c 4 t) (iblk m c 5 t) (iblk m c 6 t) (iblk m c 7 t) (iblk m c 8 t))) where
  rz k j hk := trip_dot m c hA t i h1 k hk _ j _ fun d => v17_Wz1_at m c d j
  rr k j hk := trip_dot m c hA t i h1 k hk _ j _ fun d => v17_Wr1_at m c d j
  rc k j hk := trip_dot m c hA t i h1 k hk _ j _ fun d => v17_W1_at m c d j
  b1 j := by rw [iblk9]; pointwise [k0_pay40]; exact bW1_at m c j
  ub1 j := by rw [iblk12]; pointwise [k0_pay41]; exact bU1_at m c j
  b2 j := by rw [iblk13]; pointwise [k0_pay42]; exact bW2_at m c j
  ub2 j := by rw [iblk16]; pointwise [k0_pay43]; exact bU2_at m c j
  uz1 i j := by rw [iblk10]; exact v18_Uz1_at m c i j
  ur1 i j := by rw [iblk10]; exact v18_Ur1_at m c i j
  wz2 i j := by rw [iblk10]; exact v18_Wz2_at m c i j
  wr2 i j := by rw [iblk10]; exact v18_Wr2_at m c i j
  wc2 i j := by rw [iblk10]; exact v18_W2_at m c i j
  u1 i j := by rw [iblk11]; rfl
  uz2 i j := by rw [iblk14]; exact v19_Uz2_at m c i j
  ur2 i j := by rw [iblk14]; exact v19_Ur2_at m c i j
  u2 i j := by rw [iblk15]; rfl

/-- The head's arrays hold the head's weights and bias. -/
theorem head_arrays : HeadArrays m (kernelArrays m c).headW (kernelArrays m c).headB where
  weights c' k v := by rw [Subsingleton.elim c' c]; rfl
  bias c' v := by rw [Subsingleton.elim c' c]; exact bg_at m c v

/-- The first point leaves the recurrent states, and the head's contents after one tile. -/
theorem first (hA : (kernelArrays m c).Ok) (hL : ∀ r, Finite (score (kernelArrays m c).hid (kernelArrays m c).headW (kernelArrays m c).headB r)) :
    FirstOK m (headInv (kernelArrays m c).hid (kernelArrays m c).headW (kernelArrays m c).headB) := by
  intro c' t h ht d17 d18 SC hc
  obtain rfl : c' = c := Subsingleton.elim _ _
  exact first_inv ht ((head_arrays m c').tile c' t (by omega) d17 d18 fun r k => gruRows_at (packed m c' hA t _ h) r k) hL _ SC

end Cert.Value
end
-- ==== Proof.KernelIdeal.ExactRun.lean ====
/- The kernel's run, with the contents its output buffers end with. -/
module

public import proofs.«01_k».proof.Proof.KernelIdeal.FrameRun
public import Idealize.ShloMosaic.Lib.StableHlo.RunRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable {m} {I : ScratchInv F} {O : Dev nD → Fin cfg0.N → S64x8192.Idx → Elt F .f32}

set_option backward.isDefEq.respectTransparency.types false in
/-- Every execution terminates with the pipeline's arrays at what the points write back, and every other buffer as the host's
    operations leave it. -/
theorem run_pipeline (hF : FirstOK m I) (hT : TileOK m I) (hS : SecondOK I) (hO : OutOK I O) (h0 : ∀ H IW SC M S, I 0 H IW SC M S) :
    θ_run defs (onTc (τ := τ) (main (F := F))) ⟨m, fun _ => 0, ρ⟩
      (Pipeline.FramePost cfgs (fun _ => datOf m I O) 0 (Pipeline.afterTail₀ cfgs (fun _ => datOf m I O) 0 (V0 m) [hostOps1])) :=
  Pipeline.θ_run_frame_around_track cfgs (fun _ => datOf m I O) 0 launch0 defs₀ 𝒱₀ m ρ main
    (hbody := fun c => obligation_named hF hT hS hO c)
    (hshare := fun c => (datOf m I O c).share_full fun _ => rfl) (howed := fun _ _ => rfl) (V₀ := V0 m) (opss := [hostOps1])
    (hsub := sfx_sub) (hfresh := sfx_fresh) (hkeep := sfx_keeps) (hmain := hmain m 𝒱₀) (hA := fun c w => datOf_A m _ _ c w)
    (hin := fun c => scratch_in I h0 c) (hout := fun c => scratch_out I c _)
    (Q' := _) (hQ' := fun _ h => h.1)

set_option backward.isDefEq.respectTransparency.types false in
/-- Every execution terminates with the first result the array the points write back, the second all zero, and every argument
    as at launch. -/
theorem run_results (hF : FirstOK m I) (hT : TileOK m I) (hS : SecondOK I) (hO : OutOK I O) (h0 : ∀ H IW SC M S, I 0 H IW SC M S) :
    θ_run defs (onTc (τ := τ) (main (F := F))) ⟨m, fun _ => 0, ρ⟩ (fun r => ∀ c : Dev nD,
      r.2.mem ((c.tc : Thread nD τ).loc main_v25) = (datOf m I O c).arrAt 19 (cfgs 0).N
      ∧ r.2.mem ((c.tc : Thread nD τ).loc main_v26) = (fun _ => 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine (θ_run defs _ _).mono (fun _ h c => ⟨(h c).1 19, ?_,
    (((h c).2 main_arg0 (Pipeline.mem_restRefs_of main_arg0 (by decide) (by decide))).trans (W_main_arg0 m (fun _ => datOf m I O) c)),
      (((h c).2 main_arg1 (Pipeline.mem_restRefs_of main_arg1 (by decide) (by decide))).trans (W_main_arg1 m (fun _ => datOf m I O) c)),
      ((h c).1 4).trans (((datOf m I O c).arrAt_in 4 rfl _).trans ((datOf_A m I O c 4).trans (V_main_arg2 m c))),
      (((h c).2 main_arg3 (Pipeline.mem_restRefs_of main_arg3 (by decide) (by decide))).trans (W_main_arg3 m (fun _ => datOf m I O) c)),
      (((h c).2 main_arg4 (Pipeline.mem_restRefs_of main_arg4 (by decide) (by decide))).trans (W_main_arg4 m (fun _ => datOf m I O) c)),
      (((h c).2 main_arg5 (Pipeline.mem_restRefs_of main_arg5 (by decide) (by decide))).trans (W_main_arg5 m (fun _ => datOf m I O) c)),
      (((h c).2 main_arg6 (Pipeline.mem_restRefs_of main_arg6 (by decide) (by decide))).trans (W_main_arg6 m (fun _ => datOf m I O) c)),
      (((h c).2 main_arg7 (Pipeline.mem_restRefs_of main_arg7 (by decide) (by decide))).trans (W_main_arg7 m (fun _ => datOf m I O) c)),
      (((h c).2 main_arg8 (Pipeline.mem_restRefs_of main_arg8 (by decide) (by decide))).trans (W_main_arg8 m (fun _ => datOf m I O) c)),
      (((h c).2 main_arg9 (Pipeline.mem_restRefs_of main_arg9 (by decide) (by decide))).trans (W_main_arg9 m (fun _ => datOf m I O) c)),
      (((h c).2 main_arg10 (Pipeline.mem_restRefs_of main_arg10 (by decide) (by decide))).trans (W_main_arg10 m (fun _ => datOf m I O) c)),
      (((h c).2 main_arg11 (Pipeline.mem_restRefs_of main_arg11 (by decide) (by decide))).trans (W_main_arg11 m (fun _ => datOf m I O) c)),
      ((h c).1 11).trans (((datOf m I O c).arrAt_in 11 rfl _).trans ((datOf_A m I O c 11).trans (V_main_arg12 m c))),
      (((h c).2 main_arg13 (Pipeline.mem_restRefs_of main_arg13 (by decide) (by decide))).trans (W_main_arg13 m (fun _ => datOf m I O) c)),
      (((h c).2 main_arg14 (Pipeline.mem_restRefs_of main_arg14 (by decide) (by decide))).trans (W_main_arg14 m (fun _ => datOf m I O) c)),
      (((h c).2 main_arg15 (Pipeline.mem_restRefs_of main_arg15 (by decide) (by decide))).trans (W_main_arg15 m (fun _ => datOf m I O) c)),
      (((h c).2 main_arg16 (Pipeline.mem_restRefs_of main_arg16 (by decide) (by decide))).trans (W_main_arg16 m (fun _ => datOf m I O) c)),
      (((h c).2 main_arg17 (Pipeline.mem_restRefs_of main_arg17 (by decide) (by decide))).trans (W_main_arg17 m (fun _ => datOf m I O) c)),
      (((h c).2 main_arg18 (Pipeline.mem_restRefs_of main_arg18 (by decide) (by decide))).trans (W_main_arg18 m (fun _ => datOf m I O) c)),
      (((h c).2 main_arg19 (Pipeline.mem_restRefs_of main_arg19 (by decide) (by decide))).trans (W_main_arg19 m (fun _ => datOf m I O) c)),
      ((h c).1 15).trans (((datOf m I O c).arrAt_in 15 rfl _).trans ((datOf_A m I O c 15).trans (V_main_arg20 m c))),
      (((h c).2 main_arg21 (Pipeline.mem_restRefs_of main_arg21 (by decide) (by decide))).trans (W_main_arg21 m (fun _ => datOf m I O) c)),
      ((h c).1 17).trans (((datOf m I O c).arrAt_in 17 rfl _).trans ((datOf_A m I O c 17).trans (V_main_arg22 m c))),
      (((h c).2 main_arg23 (Pipeline.mem_restRefs_of main_arg23 (by decide) (by decide))).trans (W_main_arg23 m (fun _ => datOf m I O) c))⟩) (run_pipeline ρ hF hT hS hO h0)
  refine ((h c).2 main_v26 (Pipeline.mem_restRefs_of main_v26 (by decide) (by decide))).trans ?_
  unfold Pipeline.afterTail₀
  generalize Pipeline.withArrays _ c _ _ = V0
  simp only [hostOps1, List.flatten_cons, List.flatten_nil, List.append_nil]
  after_reads_simp
  rfl

end Cert.KernelIdeal.Hand

end
-- ==== Proof.Value.Algebraic.lean ====
module

public import proofs.«01_k».proof.Proof.Value.Domain
public import proofs.«01_k».proof.Proof.Value.RefOut
public import proofs.«01_k».proof.Proof.Value.KernelInput
public import proofs.«01_k».proof.Proof.KernelIdeal.ExactRun

@[expose] public section
set_option maxRecDepth 16384

/-! # The two programs agree

Both the kernel's ideal form and the reference return the arguments' log-probabilities and a second result of zeros. -/

noncomputable section

namespace Cert.Value

open Idealize.ShloMosaic Idealize.ShloMosaic.TcCoe Idealize.ShloMosaic.StableHlo Idealize.SL.Sem

/-- The arguments' log-probabilities. -/
def Arrays.logProbs (A : Arrays) : FVec Ideal Cert.KernelIdeal.S64x30000 .f32 := Cert.Value.logProbs A.hid A.headW A.headB

section Kernel

open Cert.KernelIdeal Cert.KernelIdeal.Gen Cert.KernelIdeal.Hand

variable (m : (ℓ : Loc nD τ sig) → Buf (Elt Ideal) ℓ)

/-- The kernel's first result. -/
def kernelData (c : Dev nD) := datOf m
  (headInv (kernelArrays m c).hid (kernelArrays m c).headW (kernelArrays m c).headB)
  (headOut (kernelArrays m c).hid (kernelArrays m c).headW (kernelArrays m c).headB) c

/-- It is the arguments' log-probabilities. -/
theorem kernel_result (c : Dev nD) : (kernelData m c).arrAt 19 (cfgs 0).N = (kernelArrays m c).logProbs :=
  final_array _ _ _ m _ c

end Kernel

section Reference

open Cert.ReferenceIdeal Cert.ReferenceIdeal.Gen Cert.ReferenceIdeal.Value Cert.RefValue

variable (m : (ℓ : Loc nD τ sig) → Buf (Elt Ideal) ℓ)

/-- The reference's first result is its arguments' log-probabilities. -/
theorem reference_result (c : Dev nD) (hA : (args (launchContents m c)).Ok) :
    (out_main_v114 (STEP^[64] (entryContents preI m c)) : FVec Ideal S64x30000 .f32) = (args (launchContents m c)).logProbs := by
  have h := iter_main_arg22 m c 64
  have h' := iter_main_arg23 m c 64
  unfold entryContents at h h' ⊢
  rw [entry_eq] at h h' ⊢
  funext i
  obtain ⟨r, v, rfl⟩ : ∃ r v, i = ix2 r v := ⟨i 0, i 1, eq_ix2 i⟩
  exact out_eq hA h h' r v

end Reference

/-- From arguments the precondition admits, the kernel's ideal form and the reference return equal results. -/
theorem algebraic : Cert.algebraic_KernelIdeal_ReferenceIdeal_pre_inputs_ok := by
  intro m ρ m' ρ' hpre hagree
  have hA : ∀ c, (kernelArrays m c).Ok := fun c => ok_of_pre (hpre c)
  have hargs : ∀ c, Cert.RefValue.args (launchContents m' c) = kernelArrays m c := fun c => by
    simp only [Cert.RefValue.args, kernelArrays, Arrays.mk.injEq]
    exact hagree c
  have hL := fun c => Cert.RefValue.score_finite (hA c)
  refine ⟨fun c => (kernelArrays m c).logProbs, fun _ _ => 0#32, ?_, ?_⟩
  · refine (θ_run _ _ _).mono (fun r h c => ⟨((h c).1).trans ?_, (h c).2⟩)
      (Cert.KernelIdeal.Hand.run_results (m := m) ρ (first m 0 (hA 0) (hL 0)) (head_tile (head_arrays m 0) (hL 0)) head_second
        (head_out (hL 0)) fun _ _ _ _ _ h => absurd h (by omega))
    obtain rfl : c = 0 := Subsingleton.elim _ _
    exact kernel_result m 0
  · refine (θ_run _ _ _).mono (fun r h c => ⟨((h c).1).trans ?_, ((h c).2.1).trans (Cert.RefValue.out_zero _), (h c).2.2⟩)
      (Cert.ReferenceIdeal.Value.run (F := Ideal) m' ρ')
    refine (reference_result m' c ?_).trans ?_
    · rw [hargs c]; exact hA c
    · rw [hargs c]

end Cert.Value
end
-- ==== Proof.lean ====
/- The whole claim: the frames of the kernel, of its ideal form and of the reference, the ideal form's two named constants,
   and the equality of the ideal form's results with the reference's. -/
module

public import proofs.«01_k».proof.Defs
public import proofs.«01_k».proof.Proof.Kernel.FrameRun
public import proofs.«01_k».proof.Proof.KernelIdeal.FrameRun
public import proofs.«01_k».proof.Proof.ReferenceIdeal.FrameRun
public import proofs.«01_k».proof.Proof.Value.Algebraic

@[expose] public section

noncomputable section

namespace Cert.Proof

open Idealize.ShloMosaic Idealize.SL.Sem

/-- The kernel's frame, its ideal form's, the reference's, the named constants, and the results' equality. -/
theorem claim : Cert.Claim :=
  ⟨Cert.Kernel.Gen.facts, Cert.KernelIdeal.Gen.facts, Cert.ReferenceIdeal.Gen.facts, Cert.Value.domainFacts,
    fun m ρ _ => Cert.Kernel.Hand.run_frame m ρ, fun m ρ _ => Cert.KernelIdeal.Hand.run_frame m ρ,
    fun m ρ _ => Cert.KernelIdeal.Hand.run_frame m ρ, Cert.ReferenceIdeal.Hand.frame,
    fun m ρ _ => Cert.ReferenceIdeal.Hand.frame m ρ trivial,
    ⟨IdealRules.named_const.statement _ "far" .f32 0x7149F2CA#32 ⊤ rfl,
      IdealRules.named_const.statement _ "mask" .f32 0xF149F2CA#32 ⊥ rfl⟩, Cert.Value.algebraic⟩

end Cert.Proof

end
